-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_risks_below_infinity_and_event_flags [hPre_risks_below_infinity_and_event_flags : Cert.Pre_risks_below_infinity_and_event_flags.Facts] (m : (ℓ : Loc Cert.KernelIdeal.nD Cert.KernelIdeal.τ Cert.KernelIdeal.sig) → Buf (Elt Ideal) ℓ) : Prop :=
  ∀ c : Dev Cert.KernelIdeal.nD,
    (Cert.Pre_risks_below_infinity_and_event_flags.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_risks_below_infinity_and_event_flags [hPre_risks_below_infinity_and_event_flags : Cert.Pre_risks_below_infinity_and_event_flags.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_risks_below_infinity_and_event_flags.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_risks_below_infinity_and_event_flags [hKernelIdeal : Cert.KernelIdeal.Facts] [hPre_risks_below_infinity_and_event_flags : Cert.Pre_risks_below_infinity_and_event_flags.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_risks_below_infinity_and_event_flags m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_risks_below_infinity_and_event_flags [hReferenceIdeal : Cert.ReferenceIdeal.Facts] [hPre_risks_below_infinity_and_event_flags : Cert.Pre_risks_below_infinity_and_event_flags.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_risks_below_infinity_and_event_flags m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_risks_below_infinity_and_event_flags [hKernelIdeal : Cert.KernelIdeal.Facts] [hReferenceIdeal : Cert.ReferenceIdeal.Facts] [hPre_risks_below_infinity_and_event_flags : Cert.Pre_risks_below_infinity_and_event_flags.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_risks_below_infinity_and_event_flags m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_risks_below_infinity_and_event_flags : Cert.Pre_risks_below_infinity_and_event_flags.Facts),
    quiescent_Kernel (hKernel := hKernel)
    ∧ quiescent_KernelIdeal (hKernelIdeal := hKernelIdeal)
    ∧ quiescent_KernelIdeal_pre_risks_below_infinity_and_event_flags (hKernelIdeal := hKernelIdeal) (hPre_risks_below_infinity_and_event_flags := hPre_risks_below_infinity_and_event_flags)
    ∧ quiescent_ReferenceIdeal (hReferenceIdeal := hReferenceIdeal)
    ∧ quiescent_ReferenceIdeal_pre_risks_below_infinity_and_event_flags (hReferenceIdeal := hReferenceIdeal) (hPre_risks_below_infinity_and_event_flags := hPre_risks_below_infinity_and_event_flags)
    ∧ preserves_Kernel_KernelIdeal
    ∧ algebraic_KernelIdeal_ReferenceIdeal_pre_risks_below_infinity_and_event_flags (hKernelIdeal := hKernelIdeal) (hReferenceIdeal := hReferenceIdeal) (hPre_risks_below_infinity_and_event_flags := hPre_risks_below_infinity_and_event_flags)
-- ==== Pre_risks_below_infinity_and_event_flags.lean ====
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384 .f32) (main_arg1 : FVec F S16384 .f32) (main_arg2 : IVec S16384 32) : IVec S16384 1 :=
  let main_cst : FVec F S_ .f32 := constant S_ .f32 0x7F800000#32
  let main_v0 : FVec F S16384 .f32 := broadcastInDim S16384 ![] bcast_S_S16384 main_cst
  let main_v1 : IVec S16384 1 := cmpf .olt main_arg0 main_v0
  let main_c : IVec S_ 32 := constantI S_ 32 0#32
  let main_v2 : IVec S16384 32 := broadcastInDim S16384 ![] bcast_S_S16384 main_c
  let main_v3 : IVec S16384 1 := cmpi .sge main_arg2 main_v2
  let main_v4 : IVec S16384 1 := andi main_v1 main_v3
  let main_c_0 : IVec S_ 32 := constantI S_ 32 1#32
  let main_v5 : IVec S16384 32 := broadcastInDim S16384 ![] bcast_S_S16384 main_c_0
  let main_v6 : IVec S16384 1 := cmpi .sle main_arg2 main_v5
  let main_v7 : IVec S16384 1 := andi main_v4 main_v6
  main_v7
-- ==== Kernel.lean ====
abbrev S16384 : Shape := ⟨1, ![16384]⟩
abbrev S128x128 : Shape := ⟨2, ![128, 128]⟩
abbrev S1x1 : Shape := ⟨2, ![1, 1]⟩
abbrev S1x128x128 : Shape := ⟨3, ![1, 128, 128]⟩
abbrev S1 : Shape := ⟨1, ![1]⟩
abbrev S1x1x1 : Shape := ⟨3, ![1, 1, 1]⟩
abbrev S128x128x1 : Shape := ⟨3, ![128, 128, 1]⟩
abbrev S1x128 : Shape := ⟨2, ![1, 128]⟩
abbrev S_ : Shape := ⟨0, ![]⟩

abbrev nBuf : Space → Nat
  | .hbm => 8
  | .vmem => 3
  | .smem => 1
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S128x128, .f32⟩
  | .hbm, ⟨4, _⟩ => ⟨S128x128, .f32⟩
  | .hbm, ⟨5, _⟩ => ⟨S128x128, .i32⟩
  | .hbm, ⟨6, _⟩ => ⟨S1x1, .f32⟩
  | .hbm, ⟨7, _⟩ => ⟨S_, .f32⟩
  | .local _ .vmem, ⟨0, _⟩ => ⟨S128x128, .f32⟩
  | .local _ .vmem, ⟨1, _⟩ => ⟨S128x128, .i32⟩
  | .local _ .vmem, ⟨2, _⟩ => ⟨S128x128, .f32⟩
  | .local _ .smem, ⟨0, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384 : Shape := ⟨1, ![16384]⟩
abbrev S_ : Shape := ⟨0, ![]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S16384, .f32⟩
  | .hbm, ⟨4, _⟩ => ⟨S16384, .f32⟩
  | .hbm, ⟨5, _⟩ => ⟨S16384, .i32⟩
  | .hbm, ⟨6, _⟩ => ⟨S16384, .f32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_call0_cst : Ref sig .tc := ⟨.hbm, 31, rfl⟩
abbrev main_call1_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Proof.Model.lean ====
/- What the kernel's body computes, written once per kind of step instead of once per step: the bitonic compare-exchange of
   (time, packed index, risk) triples, the order in which the steps run, the two doubling prefix sums and the last scalar
   expression. Every operation is the printed one, so that the printed body IS this one by definition (`Run.lean`). -/
module

public import proofs.«01_k».proof.Proof.Gen.KernelIdeal.Frame

@[expose] public section

noncomputable section

namespace Cert.Cox

open Idealize.ShloMosaic Cert.KernelIdeal Cert.KernelIdeal.Gen

/-- The row number at every entry of the tile, -/
def rows : IVec S128x128 32 := iota .tc S128x128 32 [0] iota_S128x128_d0_w32

/-- and the column number. -/
def cols : IVec S128x128 32 := iota .tc S128x128 32 [1] iota_S128x128_d1_w32

/-- Bit `b` of the row number is clear. -/
def rowClear (b : ℕ) : IVec S128x128 1 :=
  cmpi .eq (andi rows (broadcast S128x128 (BitVec.ofNat 32 (2 ^ b)))) (broadcast S128x128 0#32)

/-- Bit `b` of the column number is clear. -/
def colClear (b : ℕ) : IVec S128x128 1 :=
  cmpi .eq (andi cols (broadcast S128x128 (BitVec.ofNat 32 (2 ^ b)))) (broadcast S128x128 0#32)

/-- Bit `b` of the sorting position `column * 128 + row` is clear. -/
def bitClear (b : ℕ) : IVec S128x128 1 :=
  if b < 7 then rowClear b else colClear (b - 7)

/-- The element of the row whose number differs in bit `b` alone: one of two rotations. -/
def rowPartner {α : Type} (b : ℕ) (x : S128x128.Idx → α) : S128x128.Idx → α :=
  select (rowClear b) (dynamicRotate 0 (BitVec.ofNat 32 (128 - 2 ^ b)) none x rotates_S128x128_d0)
    (dynamicRotate 0 (BitVec.ofNat 32 (2 ^ b)) none x rotates_S128x128_d0)

/-- The column number with bit `b` flipped, as the gather takes it. -/
def flippedCols (b : ℕ) : IVec S128x128 32 :=
  xori cols (broadcast S128x128 (BitVec.ofNat 32 (2 ^ b)))

/-- The element of the column whose number differs in bit `b` alone: a gather. -/
def colPartner {α : Type} (b : ℕ) (x : S128x128.Idx → α) : S128x128.Idx → α :=
  dynamicGather 1 x (shapeCast S128x128 (shapeCast S128x128x1
    (select (cmpi .slt (flippedCols b) (broadcast S128x128 0#32)) (addi (flippedCols b) (broadcast S128x128 128#32)) (flippedCols b))
    shapeCasts_S128x128_S128x128x1) shapeCasts_S128x128x1_S128x128)

/-- The element at the position that differs in bit `b` alone. -/
def partnerOf {α : Type} (b : ℕ) (x : S128x128.Idx → α) : S128x128.Idx → α :=
  if b < 7 then rowPartner b x else colPartner (b - 7) x

variable {F : FTy → Type} [FloatOps F]

/-- The three tiles the sort permutes together. -/
structure Tiles (F : FTy → Type) where
  time : FVec F S128x128 .f32
  key : IVec S128x128 32
  risk : FVec F S128x128 .f32

/-- The partner comes first: a later time, or the same time and a lower index. -/
def partnerFirst (b : ℕ) (s : Tiles F) : IVec S128x128 1 :=
  ori (cmpf .ogt (partnerOf b s.time) s.time)
    (andi (cmpf .oeq (partnerOf b s.time) s.time) (cmpi .slt (partnerOf b s.key) s.key))

/-- One compare-exchange of every position with its partner at bit `b`, where `low` marks the positions that keep the one coming first. -/
def exchange (low : IVec S128x128 1) (b : ℕ) (s : Tiles F) : Tiles F where
  time := select (xori (xori low (partnerFirst b s)) (constantI S128x128 1 1#1)) (partnerOf b s.time) s.time
  key := select (xori (xori low (partnerFirst b s)) (constantI S128x128 1 1#1)) (partnerOf b s.key) s.key
  risk := select (xori (xori low (partnerFirst b s)) (constantI S128x128 1 1#1)) (partnerOf b s.risk) s.risk

/-- The positions that keep the one coming first in a step at bit `b` of the phase that merges blocks of `2 ^ e`. -/
def lowMask (e b : ℕ) : IVec S128x128 1 :=
  if e < 14 then xori (xori (bitClear b) (bitClear e)) (constantI S128x128 1 1#1) else bitClear b

/-- The steps at bits `d - 1, …, 0` of the phase that merges blocks of `2 ^ e`. -/
def mergeSteps (e : ℕ) : ℕ → Tiles F → Tiles F
  | 0, s => s
  | d + 1, s => mergeSteps e d (exchange (lowMask e d) d s)

/-- The phases that merge blocks of `2, 4, …, 2 ^ e`. -/
def sortPhases : ℕ → Tiles F → Tiles F
  | 0, s => s
  | e + 1, s => mergeSteps (e + 1) (e + 1) (sortPhases e s)

/-- The tiles the sort starts from: the packed index is twice the flat index plus the event flag. -/
def startTiles (t : FVec F S128x128 .f32) (ev : IVec S128x128 32) (r : FVec F S128x128 .f32) : Tiles F where
  time := t
  key := addi (muli (addi (muli rows (broadcast S128x128 128#32)) cols) (broadcast S128x128 2#32)) ev
  risk := r

/-- Doubling along the rows: after `d` steps every entry holds the sum of the `2 ^ d` entries that end in it. -/
def rowScan (e : FVec F S128x128 .f32) : ℕ → FVec F S128x128 .f32
  | 0 => e
  | d + 1 => addf (rowScan e d) (select (cmpi .sge rows (broadcast S128x128 (BitVec.ofNat 32 (2 ^ d))))
      (dynamicRotate 0 (BitVec.ofNat 32 (2 ^ d)) none (rowScan e d) rotates_S128x128_d0)
      (broadcast S128x128 (Scalar.ofBits .f32 0x00000000#32)))

/-- The column number along one row. -/
def cols1 : IVec S1x128 32 := extractStridedSlice S1x128 ![0, 0] cols slices_S128x128_o0_0_S1x128

/-- One row shifted by `n` columns, zeros coming in. -/
def shifted (n : ℕ) (x : FVec F S1x128 .f32) : FVec F S1x128 .f32 :=
  select (cmpi .sge cols1 (broadcast S1x128 (BitVec.ofNat 32 n)))
    (dynamicRotate 1 (BitVec.ofNat 32 n) none x rotates_S1x128_d1)
    (broadcast S1x128 (Scalar.ofBits .f32 0x00000000#32))

/-- Doubling along the columns of one row. -/
def colScan (x : FVec F S1x128 .f32) : ℕ → FVec F S1x128 .f32
  | 0 => x
  | d + 1 => addf (colScan x d) (shifted (2 ^ d) (colScan x d))

/-- The sum of a tile's entries, as the kernel takes it, -/
def tileSum (x : FVec F S128x128 .f32) : F .f32 :=
  extractAt ![0, 0, 0] (shapeCast S1x1x1 (multiReduction .add [1, 2] S1
    (shapeCast S1x128x128 x shapeCasts_S128x128_S1x128x128) 0x00000000#32 reduces_S1x128x128_S1 (.inl rfl) rfl)
    shapeCasts_S1_S1x1x1) inpos_S1x1x1_p0_0_0

/-- and the greatest. -/
def tileMax (x : FVec F S128x128 .f32) : F .f32 :=
  extractAt ![0, 0, 0] (shapeCast S1x1x1 (multiReduction .maximumf [1, 2] S1
    (shapeCast S1x128x128 x shapeCasts_S128x128_S1x128x128) 0xFF800000#32 reduces_S1x128x128_S1 (.inl rfl) rfl)
    shapeCasts_S1_S1x1x1) inpos_S1x1x1_p0_0_0

/-- The exponentials of the sorted risks, shifted by the greatest. -/
def expTile (m : F .f32) (s : Tiles F) : FVec F S128x128 .f32 :=
  exp (subf s.risk (broadcast S128x128 m))

/-- The prefix sums of a tile, in sorting positions: along the rows, then the totals of the columns before. -/
def prefixTile (e : FVec F S128x128 .f32) : FVec F S128x128 .f32 :=
  addf (rowScan e 7) (broadcastTo S128x128 (shifted 1 (colScan
    (extractStridedSlice S1x128 ![127, 0] (rowScan e 7) slices_S128x128_o127_0_S1x128) 7)) broadcasts_S1x128_S128x128)

/-- The sum over the sorted entries of event flag times logarithm of the prefix sum. -/
def termSum (m : F .f32) (s : Tiles F) : F .f32 :=
  tileSum (mulf (sitofp .f32 (andi s.key (broadcast S128x128 1#32))) (log (prefixTile (expTile m s))))

/-- The kernel's last expression. -/
def lossOf (m sumEvRisk nEv sumAbs term : F .f32) : F .f32 :=
  Scalar.addf
    (Scalar.divf (Scalar.subf (Scalar.ofBits .f32 0x00000000#32) (Scalar.subf (Scalar.subf sumEvRisk term) (Scalar.mulf m nEv))) nEv)
    (Scalar.divf (Scalar.mulf (Scalar.ofBits .f32 0x38D1B717#32) sumAbs) (Scalar.ofBits .f32 0x46800000#32))

/-- What the body stores, of the three tiles it loads. -/
def lossTile (t : FVec F S128x128 .f32) (ev : IVec S128x128 32) (r : FVec F S128x128 .f32) : F .f32 :=
  lossOf (tileMax r) (tileSum (mulf (sitofp .f32 ev) r)) (tileSum (sitofp .f32 ev)) (tileSum (absf r))
    (termSum (tileMax r) (sortPhases 14 (startTiles t ev r)))

end Cert.Cox

end
-- ==== Proof.Places.lean ====
/- The sorting positions `column * 128 + row` of the tile, and what the kernel's masks and partner reads are there: bit tests of
   the position, and the element at the position that differs in one bit. -/
module

public import proofs.«01_k».proof.Proof.Model
public import Idealize.ShloMosaic.Lib.ValueIdxCore
public import Idealize.ShloMosaic.Lib.SortNet.PrintedCmp

@[expose] public section

noncomputable section

namespace Cert.Cox

open Idealize.ShloMosaic Idealize.ShloMosaic.SortNet
open Cert.KernelIdeal Cert.KernelIdeal.Gen

/-- The entry of the tile in row `r` and column `c`. -/
abbrev cell (r c : Fin (2 ^ 7)) : S128x128.Idx := ValueIdx.ix2 (n0 := 128) (n1 := 128) r c

/-- Its sorting position, `c * 128 + r`. -/
def place (c r : Fin (2 ^ 7)) : Fin (2 ^ 14) := chunkPos (P := 14) (p := 7) (by decide) c r

theorem place_val (c r : Fin (2 ^ 7)) : (place c r).val = c.val * 128 + r.val := rfl

/-- Every position is one of them. -/
theorem exists_place (p : Fin (2 ^ 14)) : ∃ c r, p = place c r := by
  have hp := p.isLt
  refine ⟨⟨p.val / 128, by omega⟩, ⟨p.val % 128, by omega⟩, Fin.ext ?_⟩
  rw [place_val]
  show p.val = p.val / 128 * 128 + p.val % 128
  omega

theorem place_injective {c r c' r' : Fin (2 ^ 7)} (h : place c r = place c' r') : c = c' ∧ r = r' := by
  have h' := congrArg Fin.val h
  rw [place_val, place_val] at h'
  have := r.isLt
  have := r'.isLt
  exact ⟨Fin.ext (by omega), Fin.ext (by omega)⟩

/-- Column `c` of the tile, as positions along the row axis, -/
def alongRows (c : Fin (2 ^ 7)) : Column S128x128 0 7 where
  col r := cell r c
  size_eq := rfl
  coord _ := rfl
  other i i' b hb := by
    match b with
    | ⟨0, _⟩ => exact absurd rfl hb
    | ⟨1, _⟩ => rfl

/-- and row `r`, as positions along the column axis. -/
def alongCols (r : Fin (2 ^ 7)) : Column S128x128 1 7 where
  col c := cell r c
  size_eq := rfl
  coord _ := rfl
  other i i' b hb := by
    match b with
    | ⟨0, _⟩ => rfl
    | ⟨1, _⟩ => exact absurd rfl hb

theorem rows_cell (r c : Fin (2 ^ 7)) : rows (cell r c) = BitVec.ofNat 32 r.val :=
  (alongRows c).iota_apply .tc iota_S128x128_d0_w32 r

theorem cols_cell (r c : Fin (2 ^ 7)) : cols (cell r c) = BitVec.ofNat 32 c.val :=
  (alongCols r).iota_apply .tc iota_S128x128_d1_w32 c

/-- A power of two below the word's range, as a word. -/
theorem toNat_two_pow {b : ℕ} (hb : b < 32) : (BitVec.ofNat 32 (2 ^ b)).toNat = 2 ^ b := by
  rw [BitVec.toNat_ofNat, Nat.mod_eq_of_lt (Nat.pow_lt_pow_right (by decide) hb)]

theorem clear_apply {s : Shape} {a : Fin s.rank} {p : ℕ} (C : Column s a p) (hp : p ≤ 32) (x : IVec s 32)
    (hx : ∀ i, x (C.col i) = BitVec.ofNat 32 i.val) {b : ℕ} (hb : b < 32) (i : Fin (2 ^ p)) :
    cmpi .eq (andi x (broadcast s (BitVec.ofNat 32 (2 ^ b)))) (broadcast s 0#32) (C.col i)
      = BitVec.ofBool (decide (i.val &&& 2 ^ b = 0)) := by
  have hi : i.val < 2 ^ 32 := Nat.lt_of_lt_of_le i.isLt (Nat.pow_le_pow_right (by decide) hp)
  show BitVec.ofBool (IntOp.andi (x (C.col i)) (BitVec.ofNat 32 (2 ^ b)) == 0#32) = _
  rw [hx]
  congr 1
  rw [Bool.eq_iff_iff, beq_iff_eq, decide_eq_true_eq, and_distance_eq_zero_iff hi _ (toNat_two_pow hb)]

/-- The mask of bit `b` tests bit `b` of the position. -/
theorem bitClear_cell {b : ℕ} (hb : b < 14) (c r : Fin (2 ^ 7)) :
    bitClear b (cell r c) = BitVec.ofBool (decide ((place c r).val &&& 2 ^ b = 0)) := by
  unfold bitClear
  by_cases h : b < 7
  · rw [if_pos h]
    refine (clear_apply (alongRows c) (by decide) rows (fun i => rows_cell i c) (b := b) (by omega) r).trans ?_
    unfold place
    rw [chunkPos_and _ h]
  · rw [if_neg h]
    refine (clear_apply (alongCols r) (by decide) cols (fun i => cols_cell r i) (b := b - 7) (by omega) c).trans ?_
    have := chunkPos_high_clear_iff (P := 14) (p := 7) (s := b) (by decide) (by omega) c r
    congr 1
    exact decide_eq_decide.mpr this.symm

/-- Round trip through a shape with one more axis of extent one. -/
theorem shapeCast_back {α : Type} (x : S128x128.Idx → α) :
    shapeCast S128x128 (shapeCast S128x128x1 x shapeCasts_S128x128_S128x128x1) shapeCasts_S128x128x1_S128x128 = x := by
  funext j
  unfold shapeCast
  rw [Shape.reshapeEquiv_reshapeEquiv, Shape.reshapeEquiv_self]

theorem partner_place_low {b : ℕ} (h : b < 7) (c r : Fin (2 ^ 7)) :
    partner 14 b (place c r) = place c (partner 7 b r) := by
  unfold place
  exact partner_chunkPos (P := 14) (p := 7) (s := b) (by decide) h c r

theorem partner_place_high {b : ℕ} (h : 7 ≤ b) (hb : b < 14) (c r : Fin (2 ^ 7)) :
    partner 14 b (place c r) = place (partner 7 (b - 7) c) r := by
  unfold place
  exact partner_chunkPos_high (P := 14) (p := 7) (s := b) (by decide) h hb c r

/-- The partner read at bit `b` reads the position that differs in bit `b`. -/
theorem partnerOf_cell {α : Type} {b : ℕ} (hb : b < 14) (x : S128x128.Idx → α) (f : Fin (2 ^ 14) → α)
    (hx : ∀ c r, x (cell r c) = f (place c r)) (c r : Fin (2 ^ 7)) :
    partnerOf b x (cell r c) = f (partner 14 b (place c r)) := by
  unfold partnerOf
  by_cases h : b < 7
  · rw [if_pos h]
    rw [partner_place_low h, ← hx]
    unfold rowPartner
    have hlt : 2 ^ b < 2 ^ 7 := Nat.pow_lt_pow_right (by decide) h
    have hm : rowClear b (cell r c) = BitVec.ofBool (decide (r.val &&& 2 ^ b = 0)) :=
      clear_apply (alongRows c) (by decide) rows (fun i => rows_cell i c) (b := b) (by omega) r
    rw [select_apply, hm, select_ofBool]
    by_cases hc : r.val &&& 2 ^ b = 0
    · rw [if_pos (decide_eq_true hc)]
      refine (alongRows c).rotate_of_clear h _ ?_ x _ r hc
      rw [BitVec.toNat_ofNat]
      exact Nat.mod_eq_of_lt (Nat.lt_of_le_of_lt (Nat.sub_le _ _) (by decide))
    · rw [if_neg (by rw [decide_eq_false hc]; exact Bool.false_ne_true)]
      exact (alongRows c).rotate_of_set h _ (toNat_two_pow (by omega)) x _ r hc
  · rw [if_neg h]
    rw [partner_place_high (by omega) hb, ← hx]
    unfold colPartner
    rw [shapeCast_back]
    exact gatherPartner_apply (alongCols r) (by decide) (by omega) cols (fun i => cols_cell r i) _ (toNat_two_pow (by omega))
      (broadcast S128x128 0#32) (broadcast S128x128 128#32) (fun _ => rfl) x c

end Cert.Cox

end
-- ==== Proof.SortSteps.lean ====
/- The kernel's compare-exchange steps are the stages of the bitonic sorting network on triples read through their source index:
   later times first, equal times in index order. The sorted tiles therefore read their sources in that order. -/
module

public import proofs.«01_k».proof.Proof.Places
public import Idealize.ShloMosaic.Lib.SortNet.Sorts
public import Idealize.ShloMosaic.PureOps.Ideal
public import Mathlib.Data.Prod.Lex

@[expose] public section

noncomputable section

namespace Cert.Cox

open Idealize.ShloMosaic Idealize.ShloMosaic.SortNet
open Cert.KernelIdeal Cert.KernelIdeal.Gen

/-- What the network orders: the time, the greater first, then the source index. -/
abbrev Rank := ERealᵒᵈ ×ₗ Fin (2 ^ 14)

/-- The rank of source `i` under the times `t`. -/
def rank (t : Fin (2 ^ 14) → EReal) (i : Fin (2 ^ 14)) : Rank := toLex (OrderDual.toDual (t i), i)

theorem rank_lt_iff (t : Fin (2 ^ 14) → EReal) (i j : Fin (2 ^ 14)) :
    rank t i < rank t j ↔ t j < t i ∨ (t i = t j ∧ i < j) := by
  unfold rank
  rw [Prod.Lex.toLex_lt_toLex]
  exact Iff.rfl

theorem rank_injective (t : Fin (2 ^ 14) → EReal) : Function.Injective (rank t) := by
  intro i j h
  exact congrArg (fun x : Rank => (ofLex x).2) h

/-- The tiles hold, at each position, the triple of the source the map names. -/
def HoldsSources (t : Fin (2 ^ 14) → EReal) (k : Fin (2 ^ 14) → BitVec 32) (x : Fin (2 ^ 14) → EReal)
    (s : Tiles Ideal) (σ : Fin (2 ^ 14) → Fin (2 ^ 14)) : Prop :=
  ∀ c r, s.time (cell r c) = t (σ (place c r)) ∧ s.key (cell r c) = k (σ (place c r)) ∧ s.risk (cell r c) = x (σ (place c r))

/-- The packed indices compare as the source indices. -/
def KeysOrdered (k : Fin (2 ^ 14) → BitVec 32) : Prop :=
  ∀ i j, IntOp.cmpi .slt (k i) (k j) = BitVec.ofBool (decide (i < j))

/-- The masks of a step: who keeps the one coming first. -/
theorem lowMask_cell {e b : ℕ} (he : e ≤ 14) (hb : b < 14) (c r : Fin (2 ^ 7)) :
    lowMask e b (cell r c) = BitVec.ofBool (decide ((place c r).val &&& 2 ^ b = 0) == decide ((place c r).val &&& 2 ^ e = 0)) := by
  unfold lowMask
  by_cases h : e < 14
  · rw [if_pos h]
    show IntOp.xori (IntOp.xori (bitClear b (cell r c)) (bitClear e (cell r c))) 1#1 = _
    rw [bitClear_cell hb, bitClear_cell h, ofBool_xor_xor_one]
    rfl
  · rw [if_neg h, bitClear_cell hb]
    have h14 : e = 14 := by omega
    subst h14
    have hz : (place c r).val &&& 2 ^ 14 = 0 := by
      rw [and_two_pow_eq_zero_iff_testBit]
      exact Nat.testBit_lt_two_pow (place c r).isLt
    rw [decide_eq_true hz, beq_true]

/-- The direction of the network's stage of that step, as the mask's complement. -/
def keepOf (e b : ℕ) (p : Fin (2 ^ 14)) : Bool :=
  !(decide (p.val &&& 2 ^ b = 0) == decide (p.val &&& 2 ^ e = 0))

theorem keepOf_eq (e b : ℕ) :
    keepOf e b = upperXor (p := 14) b (fun p => decide (p.val &&& 2 ^ e = 0) == false) := by
  funext p
  unfold keepOf upperXor
  by_cases h1 : p.val &&& 2 ^ b = 0 <;> by_cases h2 : p.val &&& 2 ^ e = 0 <;> simp [h1, h2]

theorem keepOf_partner {e b : ℕ} (hb : b < e) (he : e ≤ 14) (p : Fin (2 ^ 14)) :
    keepOf e b (partner 14 b p) = !keepOf e b p := by
  rw [keepOf_eq]
  obtain ⟨l, rfl⟩ : ∃ l, e = l + 1 := ⟨e - 1, by omega⟩
  exact upperXor_partner (by omega) _ p (sizeClear_partner (by omega) (by omega) false p)

/-- Some step of the network moves the sources as the printed step does. -/
theorem exchange_holds {t : Fin (2 ^ 14) → EReal} {k : Fin (2 ^ 14) → BitVec 32} {x : Fin (2 ^ 14) → EReal} (hk : KeysOrdered k)
    {e b : ℕ} (hb : b < e) (he : e ≤ 14) {s : Tiles Ideal} {σ : Fin (2 ^ 14) → Fin (2 ^ 14)} (h : HoldsSources t k x s σ) :
    HoldsSources t k x (exchange (lowMask e b) b s) (fun p => σ (stageSrc 14 b (keepOf e b) (rank t ∘ σ) p)) := by
  intro c r
  have hb' : b < 14 := by omega
  have pt := partnerOf_cell hb' s.time (fun p => t (σ p)) (fun c r => (h c r).1) c r
  have pk := partnerOf_cell hb' s.key (fun p => k (σ p)) (fun c r => (h c r).2.1) c r
  have px := partnerOf_cell hb' s.risk (fun p => x (σ p)) (fun c r => (h c r).2.2) c r
  obtain ⟨ht, hkk, hx⟩ := h c r
  generalize hp : place c r = p at *
  have hfirst : partnerFirst b s (cell r c)
      = BitVec.ofBool (decide (rank t (σ (partner 14 b p)) < rank t (σ p))) := by
    show IntOp.ori (Ideal.cmp .ogt (partnerOf b s.time (cell r c)) (s.time (cell r c)))
      (IntOp.andi (Ideal.cmp .oeq (partnerOf b s.time (cell r c)) (s.time (cell r c)))
        (IntOp.cmpi .slt (partnerOf b s.key (cell r c)) (s.key (cell r c)))) = _
    rw [pt, pk, ht, hkk, hk]
    show BitVec.ofBool _ ||| (BitVec.ofBool _ &&& BitVec.ofBool _) = _
    rw [BitVec.ofBool_and_ofBool, BitVec.ofBool_or_ofBool]
    congr 1
    rw [Bool.eq_iff_iff, decide_eq_true_eq, rank_lt_iff]
    simp only [Bool.or_eq_true, Bool.and_eq_true, decide_eq_true_eq]
  have hm : (xori (xori (lowMask e b) (partnerFirst b s)) (constantI S128x128 1 1#1)) (cell r c)
      = BitVec.ofBool (!decide (decide (rank t (σ (partner 14 b p)) < rank t (σ p)) = keepOf e b p)) := by
    show IntOp.xori (IntOp.xori (lowMask e b (cell r c)) (partnerFirst b s (cell r c))) 1#1 = _
    rw [lowMask_cell he hb', hfirst, ofBool_xor_xor_one, hp]
    congr 1
    unfold keepOf
    cases (decide (p.val &&& 2 ^ b = 0) == decide (p.val &&& 2 ^ e = 0)) <;>
      cases decide (rank t (σ (partner 14 b p)) < rank t (σ p)) <;> rfl
  have hsel : ∀ {α : Type} (u v : S128x128.Idx → α) (f : Fin (2 ^ 14) → α), u (cell r c) = f (σ (partner 14 b p)) →
      v (cell r c) = f (σ p) →
      select (xori (xori (lowMask e b) (partnerFirst b s)) (constantI S128x128 1 1#1)) u v (cell r c)
        = f (σ (stageSrc 14 b (keepOf e b) (rank t ∘ σ) p)) := by
    intro α u v f hu hv
    rw [select_apply, hm, select_ofBool, hu, hv]
    unfold stageSrc
    show (if _ then _ else _) = f (σ (if decide (rank t (σ (partner 14 b p)) < rank t (σ p)) = keepOf e b p then p else partner 14 b p))
    by_cases hc : decide (rank t (σ (partner 14 b p)) < rank t (σ p)) = keepOf e b p
    · rw [if_pos hc, decide_eq_true hc]; rfl
    · rw [if_neg hc, decide_eq_false hc]; rfl
  exact ⟨hsel _ _ t pt ht, hsel _ _ k pk hkk, hsel _ _ x px hx⟩

/-- The tiles hold sources whose ranks are the entries of `E`. -/
def HoldsRanks (t : Fin (2 ^ 14) → EReal) (k : Fin (2 ^ 14) → BitVec 32) (x : Fin (2 ^ 14) → EReal)
    (s : Tiles Ideal) (E : Fin (2 ^ 14) → Rank) : Prop :=
  ∃ σ : Fin (2 ^ 14) → Fin (2 ^ 14), HoldsSources t k x s σ ∧ rank t ∘ σ = E

variable {t : Fin (2 ^ 14) → EReal} {k : Fin (2 ^ 14) → BitVec 32} {x : Fin (2 ^ 14) → EReal}

theorem exchange_ranks (hk : KeysOrdered k) {e b : ℕ} (hb : b < e) (he : e ≤ 14) {s : Tiles Ideal} {E : Fin (2 ^ 14) → Rank}
    (h : HoldsRanks t k x s E) :
    HoldsRanks t k x (exchange (lowMask e b) b s)
      (Network.apply (stage 14 b fun p => decide (p.val &&& 2 ^ e = 0) == false) E) := by
  obtain ⟨σ, hσ, rfl⟩ := h
  refine ⟨_, exchange_holds hk hb he hσ, funext fun p => ?_⟩
  rw [← stage_upperXor, ← keepOf_eq, apply_stage_src (by omega) _ (keepOf_partner hb he)]
  rfl

theorem mergeSteps_ranks (hk : KeysOrdered k) {e : ℕ} (he : e ≤ 14) (d : ℕ) (hd : d ≤ e) {s : Tiles Ideal}
    {E : Fin (2 ^ 14) → Rank} (h : HoldsRanks t k x s E) :
    HoldsRanks t k x (mergeSteps e d s)
      (Network.apply ((List.range d).reverse.flatMap fun b => stage 14 b fun p => decide (p.val &&& 2 ^ e = 0) == false) E) := by
  induction d generalizing s E with
  | zero => exact h
  | succ d ih =>
    rw [List.range_succ, List.reverse_append, List.reverse_singleton, List.singleton_append, List.flatMap_cons,
      Network.apply_append]
    exact ih (by omega) (exchange_ranks hk (by omega) he h)

theorem sortPhases_ranks (hk : KeysOrdered k) (e : ℕ) (he : e ≤ 14) {s : Tiles Ideal}
    {E : Fin (2 ^ 14) → Rank} (h : HoldsRanks t k x s E) :
    HoldsRanks t k x (sortPhases e s)
      (Network.apply ((List.range e).flatMap fun l => (List.range (l + 1)).reverse.flatMap fun b =>
        stage 14 b fun p => decide (p.val &&& 2 ^ (l + 1) = 0) == false) E) := by
  induction e with
  | zero => exact h
  | succ e ih =>
    rw [List.range_succ, List.flatMap_append, List.flatMap_singleton, Network.apply_append]
    exact mergeSteps_ranks hk he (e + 1) le_rfl (ih (by omega))

/-- After the sort the tiles read their sources in order of rank, each source once. -/
theorem sorted_sources (hk : KeysOrdered k) {s : Tiles Ideal} {σ₀ : Fin (2 ^ 14) → Fin (2 ^ 14)} (hσ₀ : Function.Bijective σ₀)
    (h : HoldsSources t k x s σ₀) :
    ∃ σ : Fin (2 ^ 14) → Fin (2 ^ 14), HoldsSources t k x (sortPhases 14 s) σ ∧ Function.Bijective σ ∧ StrictMono (rank t ∘ σ) := by
  obtain ⟨σ, hσ, hE⟩ := sortPhases_ranks hk 14 le_rfl (E := rank t ∘ σ₀) ⟨σ₀, h, rfl⟩
  have hmono : Monotone (rank t ∘ σ) := by
    rw [hE]
    exact sortNet_apply_monotone 14 (rank t ∘ σ₀)
  have hinj : Function.Injective (rank t ∘ σ) := by
    rw [hE]
    obtain ⟨π, hπ⟩ := Network.exists_perm (sortNet 14 false) (rank t ∘ σ₀)
    refine (show Function.Injective (Network.apply (sortNet 14 false) (rank t ∘ σ₀)) from ?_)
    rw [hπ]
    exact ((rank_injective t).comp hσ₀.1).comp π.injective
  exact ⟨σ, hσ, Finite.injective_iff_bijective.mp (Function.Injective.of_comp hinj), hmono.strictMono_of_injective hinj⟩

end Cert.Cox

end
-- ==== Proof.Run.lean ====
/- The printed body is the model: the one piece its store leaves holds `lossTile` of the three loaded tiles. -/
module

public import proofs.«01_k».proof.Proof.Model

@[expose] public section

noncomputable section

namespace Cert.Cox

open Idealize.ShloMosaic Cert.KernelIdeal Cert.KernelIdeal.Gen

variable {F : FTy → Type} [FloatOps F]

/-- A tile as the body loads it: cast to its own shape. -/
def cast₀ {α : Type} (x : S128x128.Idx → α) : S128x128.Idx → α := shapeCast S128x128 x shapeCasts_S128x128_S128x128

/-- The whole-tile load of a staging memref holding `x`. -/
def loaded {e : EltTy} (arg : Memref sig .tc .vmem S128x128 e) (h : arg.IsWhole) (x : Vec F S128x128 e) : Vec F S128x128 e :=
  View.readAt (Elt F) arg.view (Rect.unit (s := S128x128) ![0, 0] S128x128.size inb_S128x128_S128x128_0_0).toLoadRect (h.unread x)

theorem kernelRun_eq (c : Dev nD) (arg0 : Memref sig .tc .vmem S128x128 .f32) (harg0 : arg0.IsWhole) (arg1 : Memref sig .tc .vmem S128x128 .i32) (harg1 : arg1.IsWhole) (arg2 : Memref sig .tc .vmem S128x128 .f32) (harg2 : arg2.IsWhole) (arg3 : Memref sig .tc .smem S1x1 .f32) (harg3 : arg3.IsWhole)
    (x0 : Vec F S128x128 .f32) (x1 : Vec F S128x128 .i32) (x2 : Vec F S128x128 .f32) :
    (kernelRun0_A c arg0 harg0 arg1 harg1 arg2 harg2 arg3 harg3 x0 x1 x2).1
      = [⟨Rect.unit (s := S1x1) ![0, 0] S1x1.size inb_S1x1_S1x1_0_0, fun _ => lossTile (cast₀ (loaded arg0 harg0 x0)) (cast₀ (loaded arg1 harg1 x1)) (cast₀ (loaded arg2 harg2 x2))⟩] := by
  sl_kernel_rfl

end Cert.Cox

end
-- ==== Proof.KernelValue.lean ====
/- What the idealized kernel's program leaves in its result: the model's loss of the three arguments, laid out in tiles. -/
module

public import proofs.«01_k».proof.Proof.Run
public import Idealize.ShloMosaic.Lib.Pipeline.Value
public import Idealize.ShloMosaic.Lib.VecWindow
public import Idealize.ShloMosaic.Lib.Quiescent

@[expose] public section

noncomputable section

namespace Cert.Cox

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A vector laid out row by row in the tile. -/
def tiled {α : Type} (x : S16384.Idx → α) : S128x128.Idx → α := shapeCast S128x128 x shapeCasts_S16384_S128x128

/-- The kernel's loss of the three argument vectors. -/
def lossVal (risk time : FVec F S16384 .f32) (ev : IVec S16384 32) : F .f32 :=
  lossTile (tiled time) (tiled ev) (tiled risk)

/-- A cast to the tile's own shape changes nothing. -/
theorem cast₀_eq {α : Type} (x : S128x128.Idx → α) : cast₀ x = x := by
  funext j
  unfold cast₀
  exact congrArg x (Shape.reshapeEquiv_self _ j)

/-- The whole-tile load reads what the staging memref holds. -/
theorem loaded_eq {e : EltTy} (arg : Memref sig .tc .vmem S128x128 e) (h : arg.IsWhole) (x : Vec F S128x128 e) :
    loaded arg h x = x :=
  (View.readAt_full arg.view _ _).trans (h.read_unread x)

/-- What the body leaves in the result's staging buffer. -/
theorem outsAt_eq (c : Dev nD) (t : Fin cfg0.N) :
    outsAt0 m c t = fun _ => lossTile (iblk m c 0 t) (iblk m c 1 t) (iblk m c 2 t) := by
  unfold outsAt0 out0_A_3
  rw [kernelRun_eq, View.read_writes_full]
  simp only [loaded_eq, cast₀_eq]
  rfl

/-- Each input's block is its whole array as the region finds it. -/
theorem iblk_0 (c : Dev nD) (t : Fin cfg0.N) : iblk m c 0 t = tiled (m ((c : Thread nD τ).loc main_arg1)) := by
  unfold iblk V V0
  simp only [List.flatten_cons, List.flatten_nil, List.append_nil, hostOps0]
  after_results_simp
  funext i
  refine congrArg (tiled (m ((c : Thread nD τ).loc main_arg1))) (funext fun a => Fin.ext ?_)
  fin_cases a <;> exact (Nat.zero_add _).trans (Nat.one_mul _)

theorem iblk_1 (c : Dev nD) (t : Fin cfg0.N) : iblk m c 1 t = tiled (m ((c : Thread nD τ).loc main_arg2)) := by
  unfold iblk V V0
  simp only [List.flatten_cons, List.flatten_nil, List.append_nil, hostOps0]
  after_results_simp
  funext i
  refine congrArg (tiled (m ((c : Thread nD τ).loc main_arg2))) (funext fun a => Fin.ext ?_)
  fin_cases a <;> exact (Nat.zero_add _).trans (Nat.one_mul _)

theorem iblk_2 (c : Dev nD) (t : Fin cfg0.N) : iblk m c 2 t = tiled (m ((c : Thread nD τ).loc main_arg0)) := by
  unfold iblk V V0
  simp only [List.flatten_cons, List.flatten_nil, List.append_nil, hostOps0]
  after_results_simp
  funext i
  refine congrArg (tiled (m ((c : Thread nD τ).loc main_arg0))) (funext fun a => Fin.ext ?_)
  fin_cases a <;> exact (Nat.zero_add _).trans (Nat.one_mul _)

/-- What the result array holds. -/
abbrev lossArr (c : Dev nD) : Buf (Elt F) ((c : Thread nD τ).loc main_v3) :=
  fun _ => lossVal (m ((c : Thread nD τ).loc main_arg0)) (m ((c : Thread nD τ).loc main_arg1)) (m ((c : Thread nD τ).loc main_arg2))

theorem flushed_eq (c : Dev nD) (t : Fin cfg0.N) :
    (dats m 0 c).flushed 3 t = (win0_3.blk t).view.read (Elt F) (lossArr m c) := by
  show (cfg0.win 3).cut (grid0.coords t) ((dats m 0 c).after 3 t) = _
  rw [after0_3, outsAt_eq, iblk_0, iblk_1, iblk_2]
  rfl

theorem cover (i : S1x1.Idx) :
    ∃ t : Fin cfg0.N, (cfg0.win 3).flush t = true ∧ i ∈ ((cfg0.win 3).blk t).view.set := by
  have h0 : 0 < cfg0.N := by decide
  refine ⟨⟨0, h0⟩, flush0_3 _, ?_⟩
  show i ∈ ((View.whole main_v3).slice (win0_3.rect ⟨0, h0⟩)).set
  rw [View.set_slice_whole]
  rw [← Rect.map_emb_univ]
  refine Finset.mem_map.2 ⟨i, Finset.mem_univ _, ?_⟩
  have hsub : ∀ x y : S1x1.Idx, x = y := fun x y => funext fun a => by
    fin_cases a <;> exact Subsingleton.elim (α := Fin 1) _ _
  exact hsub _ _

theorem final_arr (c : Dev nD) : (dats m 0 c).arrAt 3 cfg0.N = lossArr m c :=
  (dats m 0 c).arrAt_eq_of_cover 3 (lossArr m c) (fun t _ => flushed_eq m c t) cover

theorem final_result (c : Dev nD) :
    Pipeline.afterTail₀ cfgs (dats m) 0 (V0 m) [hostOps1] c main_v4
      = fun _ => lossVal (m ((c : Thread nD τ).loc main_arg0)) (m ((c : Thread nD τ).loc main_arg1)) (m ((c : Thread nD τ).loc main_arg2)) := by
  unfold Pipeline.afterTail₀
  simp only [List.flatten_cons, List.flatten_nil, List.append_nil, hostOps1]
  after_results_simp
  have h : Pipeline.withArrays (cfgs 0).spec c (V0 m c) (fun w => (dats m 0 c).arrAt w (cfgs 0).N)
      (Proc.tc.devRef main_v3) = lossArr m c :=
    (Pipeline.withArrays_arr spec0 (by decide) c (V0 m c) (fun w => (dats m 0 c).arrAt w (cfgs 0).N) 3).trans (final_arr m c)
  rw [h]
  rfl

/-- The run: the result holds the loss, the arguments are unchanged. -/
theorem kernel_run : θ_run defs (onTc (τ := τ) (main (F := F))) ⟨m, fun _ => 0, ρ⟩ fun r => ∀ c : Dev nD,
      r.2.mem ((c.tc : Thread nD τ).loc main_v4)
        = (fun _ => lossVal (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (final_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Cox

end
-- ==== Proof.TileSums.lean ====
/- Sums and greatest entries of a tile, as sums and suprema over the positions; the tiles of the argument vectors. -/
module

public import proofs.«01_k».proof.Proof.SortSteps
public import proofs.«01_k».proof.Proof.KernelValue
public import Idealize.ShloMosaic.PureOps.Reduce
public import Idealize.ShloMosaic.Lib.Pointwise.Reshape

@[expose] public section

noncomputable section

namespace Cert.Cox

open Idealize.ShloMosaic Idealize.ShloMosaic.SortNet
open Cert.KernelIdeal Cert.KernelIdeal.Gen
open scoped BigOperators

/-- The pattern of minus infinity is the least extended real. -/
theorem ofBits_neg_inf : Ideal.ofBits .f32 0xFF800000#32 = ⊥ := by simp [Ideal.ofBits, Ideal.ieee]

/-- The pattern of plus infinity is the greatest. -/
theorem ofBits_inf : Ideal.ofBits .f32 0x7F800000#32 = ⊤ := by simp [Ideal.ofBits, Ideal.ieee]

/-- The pattern of zero. -/
theorem ofBits_zero : Ideal.ofBits .f32 0x00000000#32 = 0 := by simp [Ideal.ofBits, Ideal.ieee]

theorem s1_subsingleton (i j : S1.Idx) : i = j := funext fun a => by
  fin_cases a; exact Subsingleton.elim (α := Fin 1) _ _

/-- A reshape keeps the sum of the entries, -/
theorem sum_shapeCast {s t : Shape} (x : s.Idx → EReal) (h : s.ShapeCasts t) : ∑ i, shapeCast t x h i = ∑ j, x j :=
  Equiv.sum_comp (Shape.reshapeEquiv h) x

/-- and their supremum. -/
theorem iSup_shapeCast {s t : Shape} (x : s.Idx → EReal) (h : s.ShapeCasts t) : ⨆ i, shapeCast t x h i = ⨆ j, x j :=
  Equiv.iSup_comp (g := x) (Shape.reshapeEquiv h)

/-- The printed sum is the sum of all entries. -/
theorem tileSum_eq (y : S128x128.Idx → EReal) : @Eq EReal (tileSum (F := Ideal) y) (∑ j : S128x128.Idx, y j) := by
  unfold tileSum extractAt
  show Ideal.reduceAdd reduces_S1x128x128_S1 (shapeCast S1x128x128 y shapeCasts_S128x128_S1x128x128) _ = _
  unfold Ideal.reduceAdd
  rw [Finset.filter_true_of_mem (fun i _ => s1_subsingleton _ _)]
  exact sum_shapeCast y _

/-- The printed greatest entry is the supremum of all entries. -/
theorem tileMax_eq (y : S128x128.Idx → EReal) : @Eq EReal (tileMax (F := Ideal) y) (⨆ j : S128x128.Idx, y j) := by
  unfold tileMax extractAt
  rw [Pointwise.shapeCast_apply]
  unfold multiReduction
  dsimp only
  change reduceFold reduces_S1x128x128_S1 (max : EReal → EReal → EReal) (Ideal.ofBits .f32 0xFF800000#32) _ _ = _
  rw [reduceFold_eq_fold, ofBits_neg_inf, Finset.filter_true_of_mem (fun i _ => s1_subsingleton _ _)]
  show Finset.univ.sup (fun i => (shapeCast S1x128x128 y shapeCasts_S128x128_S1x128x128 i : EReal)) = _
  rw [Finset.sup_univ_eq_iSup]
  exact iSup_shapeCast y _

theorem cell_eta (j : S128x128.Idx) : cell (j 0) (j 1) = j := (ValueIdx.eq_ix2 (n0 := 128) (n1 := 128) j).symm

/-- The tile's entries, numbered by sorting position, -/
def placeEquiv : S128x128.Idx ≃ Fin (2 ^ 14) :=
  Equiv.ofBijective (fun j => place (j 1) (j 0)) ⟨fun i j h => by
    obtain ⟨h1, h0⟩ := place_injective h
    rw [← cell_eta i, ← cell_eta j]
    exact congrArg₂ cell h0 h1, fun p => by
    obtain ⟨c, r, rfl⟩ := exists_place p
    exact ⟨cell r c, rfl⟩⟩

/-- and numbered row by row. -/
def flatEquiv : S128x128.Idx ≃ Fin (2 ^ 14) :=
  Equiv.ofBijective (fun j => place (j 0) (j 1)) ⟨fun i j h => by
    obtain ⟨h0, h1⟩ := place_injective h
    rw [← cell_eta i, ← cell_eta j]
    exact congrArg₂ cell h0 h1, fun p => by
    obtain ⟨r, c, rfl⟩ := exists_place p
    exact ⟨cell r c, rfl⟩⟩

/-- A tile's sum over sorting positions, -/
theorem tileSum_places (y : S128x128.Idx → EReal) (f : Fin (2 ^ 14) → EReal) (h : ∀ c r, y (cell r c) = f (place c r)) :
    @Eq EReal (tileSum (F := Ideal) y) (∑ p, f p) := by
  rw [tileSum_eq, ← Equiv.sum_comp placeEquiv f]
  refine Finset.sum_congr rfl fun j _ => ?_
  conv_lhs => rw [← cell_eta j]
  exact h _ _

/-- and over flat positions. -/
theorem tileSum_flat (y : S128x128.Idx → EReal) (f : Fin (2 ^ 14) → EReal) (h : ∀ r c, y (cell r c) = f (place r c)) :
    @Eq EReal (tileSum (F := Ideal) y) (∑ i, f i) := by
  rw [tileSum_eq, ← Equiv.sum_comp flatEquiv f]
  refine Finset.sum_congr rfl fun j _ => ?_
  conv_lhs => rw [← cell_eta j]
  exact h _ _

theorem tileMax_flat (y : S128x128.Idx → EReal) (f : Fin (2 ^ 14) → EReal) (h : ∀ r c, y (cell r c) = f (place r c)) :
    @Eq EReal (tileMax (F := Ideal) y) (⨆ i, f i) := by
  rw [tileMax_eq, ← Equiv.iSup_comp (g := f) flatEquiv]
  refine iSup_congr fun j => ?_
  conv_lhs => rw [← cell_eta j]
  exact h _ _

/-- The vector's entry number `i`. -/
abbrev entryAt (i : Fin (2 ^ 14)) : S16384.Idx := ValueIdx.ix1 (n := 16384) i

/-- A vector laid out in the tile has its entry `r * 128 + c` in row `r` and column `c`. -/
theorem tiled_cell {α : Type} (x : S16384.Idx → α) (r c : Fin (2 ^ 7)) : tiled x (cell r c) = x (entryAt (place r c)) := by
  unfold tiled shapeCast
  refine congrArg x (Shape.reshapeEquiv_eq_of_vals _ _ _ (r.val * 128 + c.val) (r.val * 128 + c.val) ?_ ?_ rfl)
  · exact rowMajor_val1 (d := ![16384]) (entryAt (place r c))
  · exact rowMajor_val2 (d := ![128, 128]) (cell r c) 128 rfl

/-- The position whose row and column are exchanged. -/
def transposed (p : Fin (2 ^ 14)) : Fin (2 ^ 14) :=
  place ⟨p.val % 128, Nat.mod_lt _ (by decide)⟩ ⟨p.val / 128, by have := p.isLt; omega⟩

theorem transposed_place (c r : Fin (2 ^ 7)) : transposed (place c r) = place r c := by
  have hc := c.isLt
  have hr := r.isLt
  unfold transposed
  apply Fin.ext
  rw [place_val]
  have hv := place_val c r
  have hv' := place_val r c
  show (place c r).val % 128 * 128 + (place c r).val / 128 = (place r c).val
  omega

theorem transposed_bijective : Function.Bijective transposed := by
  have hinv : Function.Involutive transposed := fun p => by
    obtain ⟨c, r, rfl⟩ := exists_place p
    rw [transposed_place, transposed_place]
  exact hinv.bijective

/-- The packed index of source `i`: twice its number plus its event flag. -/
def packed (ev : Fin (2 ^ 14) → BitVec 32) (i : Fin (2 ^ 14)) : BitVec 32 := BitVec.ofNat 32 (2 * i.val) + ev i

/-- An event flag is zero or one. -/
def Flags (ev : Fin (2 ^ 14) → BitVec 32) : Prop := ∀ i, ev i = 0#32 ∨ ev i = 1#32

theorem packed_toNat {ev : Fin (2 ^ 14) → BitVec 32} (h : Flags ev) (i : Fin (2 ^ 14)) :
    (packed ev i).toNat = 2 * i.val + (ev i).toNat ∧ (ev i).toNat ≤ 1 := by
  have hi := i.isLt
  have he : (ev i).toNat ≤ 1 := by
    rcases h i with e | e <;> rw [e] <;> decide
  refine ⟨?_, he⟩
  unfold packed
  rw [BitVec.toNat_add, BitVec.toNat_ofNat]
  omega

theorem packed_ordered {ev : Fin (2 ^ 14) → BitVec 32} (h : Flags ev) : KeysOrdered (packed ev) := by
  intro i j
  obtain ⟨hi, hei⟩ := packed_toNat h i
  obtain ⟨hj, hej⟩ := packed_toNat h j
  have li := i.isLt
  have lj := j.isLt
  show BitVec.ofBool ((packed ev i).slt (packed ev j)) = _
  congr 1
  rw [BitVec.slt_eq_ult_of_msb_eq, BitVec.ult]
  · rw [decide_eq_decide, hi, hj, Fin.lt_def]
    constructor
    · intro hlt
      by_contra hge
      have : j.val < i.val ∨ j.val = i.val := by omega
      rcases this with hlt' | heq
      · omega
      · rw [Fin.ext heq] at hlt
        omega
    · intro hlt
      omega
  · rw [BitVec.msb_eq_decide, BitVec.msb_eq_decide, hi, hj]
    rw [decide_eq_false (by omega), decide_eq_false (by omega)]

/-- The lowest bit of the packed index is the event flag. -/
theorem packed_flag {ev : Fin (2 ^ 14) → BitVec 32} (h : Flags ev) (i : Fin (2 ^ 14)) :
    IntOp.andi (packed ev i) 1#32 = ev i := by
  obtain ⟨hi, hei⟩ := packed_toNat h i
  apply BitVec.eq_of_toNat_eq
  show ((packed ev i) &&& 1#32).toNat = _
  rw [BitVec.toNat_and, hi]
  show (2 * i.val + (ev i).toNat) &&& 1 = _
  rw [Nat.and_one_is_mod]
  omega

/-- The tiles the sort starts from hold every source at its transposed position. -/
theorem start_sources (time risk : FVec Ideal S16384 .f32) (ev : IVec S16384 32) :
    HoldsSources (fun i => time (entryAt i)) (packed fun i => ev (entryAt i)) (fun i => risk (entryAt i))
      (startTiles (tiled time) (tiled ev) (tiled risk)) transposed := by
  intro c r
  rw [transposed_place]
  refine ⟨tiled_cell time r c, ?_, tiled_cell risk r c⟩
  show IntOp.addi (IntOp.muli (IntOp.addi (IntOp.muli (rows (cell r c)) 128#32) (cols (cell r c))) 2#32) (tiled ev (cell r c)) = _
  rw [rows_cell, cols_cell, tiled_cell]
  unfold packed
  show (BitVec.ofNat 32 r.val * 128#32 + BitVec.ofNat 32 c.val) * 2#32 + ev (entryAt (place r c)) = _
  congr 1
  have hr := r.isLt
  have hc := c.isLt
  apply BitVec.eq_of_toNat_eq
  rw [BitVec.toNat_mul, BitVec.toNat_add, BitVec.toNat_mul]
  simp only [BitVec.toNat_ofNat]
  rw [place_val]
  omega

end Cert.Cox

end
-- ==== Proof.RefOrder.lean ====
/- The reference's sort: its positions name the sources in the one order the network also reaches, and its gathers read them. -/
module

public import proofs.«01_k».proof.Proof.TileSums
public import proofs.«01_k».proof.Proof.Gen.ReferenceIdeal
public import Idealize.ShloMosaic.Lib.SortFacts
public import Idealize.ShloMosaic.Lib.PlanTiles.StableSort
public import Idealize.ShloMosaic.Lib.Routing.OpsSet

@[expose] public section

noncomputable section

namespace Cert.Cox

open Idealize.ShloMosaic Idealize.ShloMosaic.SortNet
open Cert.ReferenceIdeal Cert.ReferenceIdeal.Gen
open scoped BigOperators

/-- The reference's order of the sources: the stable sort of the positions, later times first. -/
def refOrder (t : Fin (2 ^ 14) → EReal) : Fin (2 ^ 14) → Fin (2 ^ 14) := sortedFrom fun k k' => decide (t k' < t k)

/-- A relation that holds along the sorted positions holds between the sources of two places. -/
theorem sortedFrom_pairwise {n : ℕ} (before : Fin n → Fin n → Bool) (R : Fin n → Fin n → Prop)
    (hp : (sortPositions n before).Pairwise R) (i j : Fin n) (hij : i < j) : R (sortedFrom before i) (sortedFrom before j) :=
  List.pairwise_iff_get.mp hp _ _ hij

/-- How many times are earlier: a number that orders as the times do. -/
def earlier (t : Fin (2 ^ 14) → EReal) (i : Fin (2 ^ 14)) : ℕ := (Finset.univ.filter fun j => t j < t i).card

theorem earlier_lt_iff (t : Fin (2 ^ 14) → EReal) (i j : Fin (2 ^ 14)) : earlier t i < earlier t j ↔ t i < t j := by
  have hmono : ∀ a b, t a ≤ t b → earlier t a ≤ earlier t b := fun a b h =>
    Finset.card_le_card fun x hx => by
      rw [Finset.mem_filter] at hx ⊢
      exact ⟨hx.1, lt_of_lt_of_le hx.2 h⟩
  constructor
  · intro h
    by_contra hn
    exact absurd (hmono j i (not_lt.mp hn)) (by omega)
  · intro h
    refine Finset.card_lt_card ⟨fun x hx => ?_, fun hs => ?_⟩
    · rw [Finset.mem_filter] at hx ⊢
      exact ⟨hx.1, hx.2.trans h⟩
    · have := hs (Finset.mem_filter.mpr ⟨Finset.mem_univ i, h⟩)
      exact lt_irrefl _ (Finset.mem_filter.mp this).2

/-- The reference's order puts the ranks in increasing order. -/
theorem refOrder_strictMono (t : Fin (2 ^ 14) → EReal) : StrictMono (rank t ∘ refOrder t) := by
  have hb : (fun k k' : Fin (2 ^ 14) => decide (t k' < t k)) = fun k k' => decide (earlier t k' < earlier t k) :=
    funext fun k => funext fun k' => decide_eq_decide.mpr (earlier_lt_iff t k' k).symm
  have hp : (sortPositions (2 ^ 14) fun k k' => decide (t k' < t k)).Pairwise fun a b => rank t a < rank t b := by
    rw [hb]
    refine (PlanTiles.pairwise_stableSort_lex (earlier t) (· < ·) (List.finRange _) (List.pairwise_lt_finRange _)).imp ?_
    intro a b h
    rw [rank_lt_iff]
    rcases h with h | ⟨h, hab⟩
    · exact Or.inl ((earlier_lt_iff t b a).mp h)
    · refine Or.inr ⟨?_, hab⟩
      rcases lt_trichotomy (t a) (t b) with h1 | h1 | h1
      · exact absurd ((earlier_lt_iff t a b).mpr h1) (by omega)
      · exact h1
      · exact absurd ((earlier_lt_iff t b a).mpr h1) (by omega)
  intro i j hij
  exact sortedFrom_pairwise _ _ hp i j hij

theorem refOrder_bijective (t : Fin (2 ^ 14) → EReal) : Function.Bijective (refOrder t) :=
  ⟨sortedFrom_injective _, sortedFrom_surjective _⟩

/-- Only one arrangement of all the sources has increasing ranks. -/
theorem order_unique {t : Fin (2 ^ 14) → EReal} {σ τ : Fin (2 ^ 14) → Fin (2 ^ 14)} (hσ : Function.Bijective σ)
    (hτ : Function.Bijective τ) (h : StrictMono (rank t ∘ σ)) (h' : StrictMono (rank t ∘ τ)) : σ = τ := by
  have he : rank t ∘ σ = rank t ∘ τ := by
    refine (StrictMono.range_inj h h').mp ?_
    rw [Set.range_comp, Set.range_comp, hσ.surjective.range_eq, hτ.surjective.range_eq]
  exact funext fun p => rank_injective t (congrFun he p)

/-- The reference's canonical zero changes nothing on the extended reals. -/
theorem canonical_zero (a : EReal) :
    Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32))
        (FloatOps.ofBits (F := Ideal) .f32 0x00000000#32) a) = a := by
  have h1 : FloatOps.cmpf (F := Ideal) (φ := .f32) .une a a = BitVec.ofBool (decide (a ≠ a)) := rfl
  have h2 : FloatOps.cmpf (F := Ideal) (φ := .f32) .oeq a (FloatOps.ofBits (F := Ideal) .f32 0x00000000#32)
      = BitVec.ofBool (decide (a = Ideal.ofBits .f32 0x00000000#32)) := rfl
  rw [h1, h2, select_ofBool, if_neg (by simp), select_ofBool]
  by_cases h : a = Ideal.ofBits .f32 0x00000000#32
  · rw [if_pos (decide_eq_true h)]
    exact h.symm
  · rw [if_neg (by simpa using h)]

/-- The reference's comparator asks for the lesser first entry. -/
theorem comparator_apply (l r : Ideal .f32 × BitVec 32) :
    comparator_f32_i32_d0 (F := Ideal) l r = BitVec.ofBool (decide ((l.1 : EReal) < r.1)) := by
  unfold comparator_f32_i32_d0
  dsimp only
  rw [canonical_zero l.1, canonical_zero r.1]
  rfl

/-- The sorted positions, as the reference writes them. -/
def sortedWords (time : FVec Ideal S16384 .f32) : IVec S16384 32 :=
  (Host.sort2 S16384 0 comparator_f32_i32_d0 (Host.negf time) (iotaInDim S16384 32 0)).2

/-- The second result of a sort of two vectors, read at a place. -/
theorem sort2_second {n : ℕ} {α β : Type} (cmp : α × β → α × β → BitVec 1) (x : (Routing.shape1 n).Idx → α) (y : (Routing.shape1 n).Idx → β)
    (before : Fin n → Fin n → Bool)
    (hb : ∀ a b, (cmp (x (ValueIdx.ix1 a), y (ValueIdx.ix1 a)) (x (ValueIdx.ix1 b), y (ValueIdx.ix1 b)) == 1#1) = before a b) (p : Fin n) :
    (Host.sort2 (Routing.shape1 n) 0 cmp x y).2 (ValueIdx.ix1 p) = y (ValueIdx.ix1 (sortedFrom before p)) := by
  have hd : 0 < (Routing.shape1 n).rank := Nat.zero_lt_one
  have e : ∀ (j : (Routing.shape1 n).Idx) (c : Fin n), j.along (⟨0, hd⟩ : Fin (Routing.shape1 n).rank) c = ValueIdx.ix1 c := fun j c =>
    (Shape.Idx.along_rank1 j c).trans (Routing.ofFin_eq_ix1 c)
  have hbefore : ∀ j : (Routing.shape1 n).Idx, (fun a b : Fin n =>
      cmp (x (j.along (⟨0, hd⟩ : Fin (Routing.shape1 n).rank) a), y (j.along (⟨0, hd⟩ : Fin (Routing.shape1 n).rank) a))
        (x (j.along (⟨0, hd⟩ : Fin (Routing.shape1 n).rank) b), y (j.along (⟨0, hd⟩ : Fin (Routing.shape1 n).rank) b)) == 1#1)
      = before := fun j => by
    funext a b
    rw [e j a, e j b]
    exact hb a b
  have hsrc := congrFun (congrArg sortedFrom (hbefore (ValueIdx.ix1 p))) p
  unfold Host.sort2
  rw [dif_pos hd]
  exact (congrArg (fun c : Fin n => y ((ValueIdx.ix1 p : (Routing.shape1 n).Idx).along (⟨0, hd⟩ : Fin (Routing.shape1 n).rank) c)) hsrc).trans
    (congrArg y (e _ _))

theorem sortedWords_apply (time : FVec Ideal S16384 .f32) (p : Fin (2 ^ 14)) :
    sortedWords time (entryAt p) = BitVec.ofNat 32 (refOrder (fun i => time (entryAt i)) p).val := by
  refine (sort2_second (n := 16384) (comparator_f32_i32_d0 (F := Ideal)) (Host.negf time) (iotaInDim S16384 32 0)
    (fun k k' => decide ((time (entryAt k') : EReal) < time (entryAt k))) (fun a b => ?_) p).trans rfl
  rw [comparator_apply]
  have hn : ((Host.negf time (entryAt a) : Ideal .f32) : EReal) < (Host.negf time (entryAt b) : Ideal .f32)
      ↔ (time (entryAt b) : EReal) < time (entryAt a) := EReal.neg_lt_neg_iff
  by_cases h : (time (entryAt b) : EReal) < time (entryAt a)
  · rw [decide_eq_true h, decide_eq_true (hn.mpr h)]; rfl
  · rw [decide_eq_false h, decide_eq_false (fun q => h (hn.mp q))]; rfl

/-- The start indices of the reference's gathers. -/
def starts (w : IVec S16384 32) : IVec S16384x1 32 :=
  broadcastInDim S16384x1 ![0] bcast_S16384_S16384x1_0 (select (cmpi .slt w (broadcastInDim S16384 ![] bcast_S_S16384 (constantI S_ 32 0#32)))
    (addi w (broadcastInDim S16384 ![] bcast_S_S16384 (constantI S_ 32 16384#32))) w)

/-- A vector read through the sorted positions. -/
def sortedBy {α : Type} (time : FVec Ideal S16384 .f32) (x : S16384.Idx → α) : S16384.Idx → α :=
  Host.gather gather_S16384_S16384x1_S16384_n_0_n_n_0_1_1 x (starts (sortedWords time))

theorem starts_apply (w : IVec S16384 32) (p b : Fin (2 ^ 14)) (h : w (entryAt p) = BitVec.ofNat 32 b.val) :
    starts w (ValueIdx.ix2 (n0 := 16384) (n1 := 1) p 0) = BitVec.ofNat 32 b.val := by
  have hb := b.isLt
  have e : starts w (ValueIdx.ix2 (n0 := 16384) (n1 := 1) p 0)
      = Scalar.select (BitVec.ofBool ((w (entryAt p)).slt 0#32)) (IntOp.addi (w (entryAt p)) 16384#32) (w (entryAt p)) := by
    unfold starts broadcastInDim
    refine congrArg (select (cmpi .slt w _) _ w) (funext fun a => Fin.ext ?_)
    match a with
    | ⟨0, _⟩ => rfl
  have hs : (BitVec.ofNat 32 b.val).slt 0#32 = false := by
    rw [Bool.eq_false_iff, Ne, BitVec.slt_iff_toInt_lt, StableHlo.Predicate.toInt_ofNat_small _ (by omega)]
    show ¬ ((b.val : ℤ) < 0)
    omega
  rw [e, h, hs]
  rfl

theorem sortedBy_apply {α : Type} (time : FVec Ideal S16384 .f32) (x : S16384.Idx → α) (p : Fin (2 ^ 14)) :
    sortedBy time x (entryAt p) = x (entryAt (refOrder (fun i => time (entryAt i)) p)) :=
  Routing.gather_take1 gather_S16384_S16384x1_S16384_n_0_n_n_0_1_1 rfl rfl rfl rfl x (starts (sortedWords time)) p
    (refOrder (fun i => time (entryAt i)) p) (starts_apply _ p _ (sortedWords_apply time p)) (by decide)

end Cert.Cox

end
-- ==== Proof.PrefixSums.lean ====
/- The kernel's two doubling scans compute the prefix sums of the sorting positions. -/
module

public import proofs.«01_k».proof.Proof.TileSums
public import Mathlib.Algebra.BigOperators.Intervals

@[expose] public section

noncomputable section

namespace Cert.Cox

open Idealize.ShloMosaic Idealize.ShloMosaic.SortNet
open Cert.KernelIdeal Cert.KernelIdeal.Gen
open scoped BigOperators

/-- The sum of the `w` entries that end in entry `r` (fewer at the start). -/
def windowSum (f : ℕ → EReal) (w r : ℕ) : EReal := ∑ j ∈ Finset.Ico (r + 1 - w) (r + 1), f j

theorem windowSum_one (f : ℕ → EReal) (r : ℕ) : windowSum f 1 r = f r := by
  unfold windowSum
  rw [Nat.add_sub_cancel, Finset.sum_Ico_succ_top (Nat.le_refl r), Finset.Ico_self, Finset.sum_empty, zero_add]

/-- Doubling the window. -/
theorem windowSum_double (f : ℕ → EReal) (w r : ℕ) :
    windowSum f w r + (if w ≤ r then windowSum f w (r - w) else 0) = windowSum f (2 * w) r := by
  unfold windowSum
  by_cases h : w ≤ r
  · rw [if_pos h, add_comm, show r - w + 1 = r + 1 - w by omega, show r + 1 - w - w = r + 1 - 2 * w by omega]
    exact Finset.sum_Ico_consecutive f (by omega) (by omega)
  · rw [if_neg h, add_zero, show r + 1 - w = 0 by omega, show r + 1 - 2 * w = 0 by omega]

/-- A window that reaches the start holds the whole prefix. -/
theorem windowSum_full (f : ℕ → EReal) (w r : ℕ) (h : r < w) : windowSum f w r = ∑ j ∈ Finset.range (r + 1), f j := by
  unfold windowSum
  rw [show r + 1 - w = 0 by omega, Finset.range_eq_Ico]

/-- The printed shift along an axis: `n` entries back, zeros coming in. -/
theorem shift_apply {s : Shape} {a : Fin s.rank} (C : Column s a 7) (x : IVec s 32)
    (hx : ∀ i, x (C.col i) = BitVec.ofNat 32 i.val) (y : s.Idx → EReal) (g : ℕ → EReal) (hy : ∀ i, y (C.col i) = g i.val)
    (n : ℕ) (hn : n < 128) (h : s.Rotates a none) (i : Fin (2 ^ 7)) :
    select (cmpi .sge x (broadcast s (BitVec.ofNat 32 n))) (dynamicRotate a (BitVec.ofNat 32 n) none y h)
        (broadcast s (Ideal.ofBits .f32 0x00000000#32)) (C.col i)
      = if n ≤ i.val then g (i.val - n) else 0 := by
  have hi := i.isLt
  have hm : (cmpi .sge x (broadcast s (BitVec.ofNat 32 n))) (C.col i) = BitVec.ofBool (decide (n ≤ i.val)) := by
    show BitVec.ofBool ((BitVec.ofNat 32 n).sle (x (C.col i))) = _
    rw [hx]
    congr 1
    rw [Bool.eq_iff_iff, BitVec.sle_iff_toInt_le, decide_eq_true_eq,
      BitVec.toInt_eq_toNat_of_lt (by rw [BitVec.toNat_ofNat]; omega),
      BitVec.toInt_eq_toNat_of_lt (by rw [BitVec.toNat_ofNat]; omega), BitVec.toNat_ofNat, BitVec.toNat_ofNat]
    omega
  rw [select_apply, hm, select_ofBool]
  by_cases hc : n ≤ i.val
  · rw [if_pos (decide_eq_true hc), if_pos hc, C.rotate_apply, hy]
    congr 1
    show (i.val + 2 ^ 7 - (BitVec.ofNat 32 n).toNat % 2 ^ 7) % 2 ^ 7 = i.val - n
    rw [BitVec.toNat_ofNat]
    omega
  · rw [if_neg (by rw [decide_eq_false hc]; exact Bool.false_ne_true), if_neg hc]
    exact ofBits_zero

/-- One doubling scan, over the rows. -/
theorem rowScan_cell (y : S128x128.Idx → EReal) (c : Fin (2 ^ 7)) (f : ℕ → EReal) (hf : ∀ r : Fin (2 ^ 7), y (cell r c) = f r.val)
    (d : ℕ) (hd : d ≤ 7) (r : Fin (2 ^ 7)) : rowScan (F := Ideal) y d (cell r c) = windowSum f (2 ^ d) r.val := by
  induction d generalizing r with
  | zero => rw [pow_zero, windowSum_one]; exact hf r
  | succ d ih =>
    have hlt : 2 ^ d < 2 ^ 7 := Nat.pow_lt_pow_right (by decide) (by omega)
    have hs := shift_apply (alongRows c) rows (fun i => rows_cell i c) (rowScan (F := Ideal) y d) (windowSum f (2 ^ d))
      (fun i => ih (by omega) i) (2 ^ d) hlt rotates_S128x128_d0 r
    rw [pow_succ, Nat.mul_comm, ← windowSum_double]
    exact congrArg₂ (· + ·) (ih (by omega) r) hs

/-- The entry of the one-row tile in column `c`. -/
abbrev cell1 (c : Fin (2 ^ 7)) : S1x128.Idx := ValueIdx.ix2 (n0 := 1) (n1 := 128) 0 c

/-- The one-row tile's columns as positions. -/
def alongCols1 : Column S1x128 1 7 where
  col c := cell1 c
  size_eq := rfl
  coord _ := rfl
  other i i' b hb := by
    match b with
    | ⟨0, _⟩ => rfl
    | ⟨1, _⟩ => exact absurd rfl hb

/-- Row `n` of a tile. -/
theorem slice_cell1 {α : Type} (n : Fin (2 ^ 7)) (x : S128x128.Idx → α) (h : S128x128.Slices ![n.val, 0] S1x128) (c : Fin (2 ^ 7)) :
    extractStridedSlice S1x128 ![n.val, 0] x h (cell1 c) = x (cell n c) := by
  unfold extractStridedSlice
  refine congrArg x (funext fun a => Fin.ext ?_)
  match a with
  | ⟨0, _⟩ => rfl
  | ⟨1, _⟩ => exact Nat.zero_add _

theorem cols1_cell1 (c : Fin (2 ^ 7)) : cols1 (cell1 c) = BitVec.ofNat 32 c.val :=
  (slice_cell1 0 cols slices_S128x128_o0_0_S1x128 c).trans (cols_cell 0 c)

theorem shifted_cell1 (y : S1x128.Idx → EReal) (g : ℕ → EReal) (hy : ∀ c : Fin (2 ^ 7), y (cell1 c) = g c.val)
    (n : ℕ) (hn : n < 128) (c : Fin (2 ^ 7)) :
    shifted (F := Ideal) n y (cell1 c) = if n ≤ c.val then g (c.val - n) else 0 :=
  shift_apply alongCols1 cols1 cols1_cell1 y g hy n hn rotates_S1x128_d1 c

/-- The other doubling scan, over the columns. -/
theorem colScan_cell1 (y : S1x128.Idx → EReal) (f : ℕ → EReal) (hf : ∀ c : Fin (2 ^ 7), y (cell1 c) = f c.val)
    (d : ℕ) (hd : d ≤ 7) (c : Fin (2 ^ 7)) : colScan (F := Ideal) y d (cell1 c) = windowSum f (2 ^ d) c.val := by
  induction d generalizing c with
  | zero => rw [pow_zero, windowSum_one]; exact hf c
  | succ d ih =>
    have hlt : 2 ^ d < 2 ^ 7 := Nat.pow_lt_pow_right (by decide) (by omega)
    have hs := shifted_cell1 (colScan (F := Ideal) y d) (windowSum f (2 ^ d)) (fun i => ih (by omega) i) (2 ^ d) hlt c
    rw [pow_succ, Nat.mul_comm, ← windowSum_double]
    exact congrArg₂ (· + ·) (ih (by omega) c) hs

/-- The prefix sums by blocks of 128. -/
theorem sum_range_blocks (f : ℕ → EReal) (c : ℕ) :
    ∑ c' ∈ Finset.range c, ∑ j ∈ Finset.range 128, f (c' * 128 + j) = ∑ q ∈ Finset.range (c * 128), f q := by
  induction c with
  | zero => rw [Nat.zero_mul, Finset.range_zero, Finset.sum_empty, Finset.sum_empty]
  | succ c ih => rw [Finset.sum_range_succ, ih, Nat.succ_mul, Finset.sum_range_add]

/-- The kernel's prefix sums are those of the sorting positions. -/
theorem prefixTile_cell (y : S128x128.Idx → EReal) (f : ℕ → EReal) (hf : ∀ c r, y (cell r c) = f (place c r).val)
    (c r : Fin (2 ^ 7)) :
    @Eq EReal (prefixTile (F := Ideal) y (cell r c)) (∑ q ∈ Finset.range ((place c r).val + 1), f q) := by
  have hrow : ∀ (c r : Fin (2 ^ 7)), rowScan (F := Ideal) y 7 (cell r c) = ∑ j ∈ Finset.range (r.val + 1), f (c.val * 128 + j) := by
    intro c r
    rw [rowScan_cell y c (fun j => f (c.val * 128 + j)) (fun r => hf c r) 7 le_rfl r, windowSum_full _ _ _ r.isLt]
  have htot : ∀ c : Fin (2 ^ 7), extractStridedSlice S1x128 ![127, 0] (rowScan (F := Ideal) y 7) slices_S128x128_o127_0_S1x128 (cell1 c)
      = ∑ j ∈ Finset.range 128, f (c.val * 128 + j) := by
    intro c
    exact (slice_cell1 127 (rowScan (F := Ideal) y 7) slices_S128x128_o127_0_S1x128 c).trans (hrow c 127)
  have hcol : ∀ c : Fin (2 ^ 7), colScan (F := Ideal) (extractStridedSlice S1x128 ![127, 0] (rowScan (F := Ideal) y 7)
      slices_S128x128_o127_0_S1x128) 7 (cell1 c) = ∑ q ∈ Finset.range ((c.val + 1) * 128), f q := by
    intro c
    rw [colScan_cell1 _ (fun c => ∑ j ∈ Finset.range 128, f (c * 128 + j)) htot 7 le_rfl c, windowSum_full _ _ _ c.isLt,
      sum_range_blocks]
  have hbefore := shifted_cell1 _ (fun c => ∑ q ∈ Finset.range ((c + 1) * 128), f q) hcol 1 (by decide) c
  have hb : broadcastTo S128x128 (shifted (F := Ideal) 1 (colScan (F := Ideal) (extractStridedSlice S1x128 ![127, 0]
      (rowScan (F := Ideal) y 7) slices_S128x128_o127_0_S1x128) 7)) broadcasts_S1x128_S128x128 (cell r c)
      = ∑ q ∈ Finset.range (c.val * 128), f q := by
    refine Eq.trans ?_ (hbefore.trans ?_)
    · unfold broadcastTo
      refine congrArg (shifted (F := Ideal) 1 _) (funext fun a => Fin.ext ?_)
      match a with
      | ⟨0, _⟩ => rfl
      | ⟨1, _⟩ => rfl
    · by_cases h : 1 ≤ c.val
      · rw [if_pos h, show c.val - 1 + 1 = c.val by omega]
      · rw [if_neg h, show c.val = 0 by omega, Nat.zero_mul, Finset.range_zero, Finset.sum_empty]
  rw [place_val, Nat.add_assoc, Finset.sum_range_add, add_comm]
  exact congrArg₂ (· + ·) (hrow c r) hb

end Cert.Cox

end
-- ==== Proof.RefValue.lean ====
/- The reference's result, as sums over the sorted sources. -/
module

public import proofs.«01_k».proof.Proof.RefOrder
public import proofs.«01_k».proof.Proof.PrefixSums
public import proofs.«01_k».proof.Proof.Gen.ReferenceIdeal.Run
public import Idealize.ShloMosaic.Lib.IdealHost

@[expose] public section

noncomputable section

namespace Cert.Cox

open Idealize.ShloMosaic Idealize.ShloMosaic.TcCoe
open Cert.ReferenceIdeal Cert.ReferenceIdeal.Gen
open scoped BigOperators

/-- A family on the positions, continued by zero. -/
def extended (g : Fin (2 ^ 14) → EReal) (q : ℕ) : EReal := if h : q < 2 ^ 14 then g ⟨q, h⟩ else 0

theorem extended_val (g : Fin (2 ^ 14) → EReal) (p : Fin (2 ^ 14)) : extended g p.val = g p := dif_pos p.isLt

/-- The vector's indices are its entry numbers. -/
def entryEquiv : Fin (2 ^ 14) ≃ S16384.Idx where
  toFun := entryAt
  invFun j := j 0
  left_inv _ := rfl
  right_inv j := (ValueIdx.eq_ix1 (n := 16384) j).symm

theorem scalar_subsingleton (i j : S_.Idx) : i = j := funext fun a => a.elim0

/-- The host's sum of a vector, -/
theorem hostSum_eq (y : S16384.Idx → EReal) :
    @Eq EReal (Host.reduceAdd (F := Ideal) (φ := .f32) y (constant S_ .f32 0x00000000#32) reducesTo_S16384_S_d0 h_S_ ValueIdx.ix0)
      (∑ i, y (entryAt i)) := by
  change Ideal.hostReduceAdd reducesTo_S16384_S_d0 y (Ideal.ofBits .f32 0x00000000#32) ValueIdx.ix0 = _
  unfold Ideal.hostReduceAdd
  rw [Finset.filter_true_of_mem (fun i _ => scalar_subsingleton _ _)]
  refine (congrArg (· + _) ofBits_zero).trans ?_
  rw [zero_add, ← Equiv.sum_comp entryEquiv]
  rfl

/-- and its greatest entry. -/
theorem hostMax_eq (y : S16384.Idx → EReal) (j : S_.Idx) :
    @Eq EReal (Host.reduce (α := Ideal .f32) FloatOps.maximumf y (constant (F := Ideal) S_ .f32 0xFF800000#32) reducesTo_S16384_S_d0 h_S_ j)
      (⨆ i, y (entryAt i)) := by
  change Host.reduce (max : EReal → EReal → EReal) y (fun _ => Ideal.ofBits .f32 0xFF800000#32) reducesTo_S16384_S_d0 h_S_ j = _
  rw [Host.reduce_eq_fold, ofBits_neg_inf, Finset.filter_true_of_mem (fun i _ => scalar_subsingleton _ _)]
  show Finset.univ.sup (fun i => (y i : EReal)) = _
  rw [Finset.sup_univ_eq_iSup]
  exact (Equiv.iSup_comp (g := y) entryEquiv).symm

/-- A left fold of additions is a sum. -/
theorem foldl_add_eq {ι : Type} (g : ι → EReal) (l : List ι) (v : EReal) : l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

/-- A window of the whole length, padded low by one less, sums a prefix. -/
theorem window_prefix (f : ℕ → EReal) (n j : ℕ) (hj : j ≤ n) :
    ∑ k ∈ Finset.range (n + 1), (if n ≤ j + k then f (j + k - n) else 0) = ∑ q ∈ Finset.range (j + 1), f q := by
  rw [show n + 1 = (n - j) + (j + 1) by omega, Finset.sum_range_add,
    Finset.sum_eq_zero (fun k hk => if_neg (by rw [Finset.mem_range] at hk; omega)), zero_add]
  refine Finset.sum_congr rfl fun k _ => ?_
  rw [if_pos (by omega), show j + (n - j + k) - n = k by omega]

/-- The prefix sums of a vector as the host prints them. -/
theorem window_apply {N Nm1 : ℕ} (hN : Nm1 + 1 = N) (x : (Routing.shape1 N).Idx → EReal) (f : ℕ → EReal)
    (hx : ∀ i : Fin N, x (ValueIdx.ix1 i) = f i.val) (init : Routing.shape0.Idx → EReal) (hinit : ∀ j, init j = 0)
    (h : (Routing.shape1 N).ReduceWindows (![N] : Fin 1 → Nat) ![1] ![Nm1] ![0] (Routing.shape1 N)) (hu : 0 < Routing.shape0.numel) (j : Fin N) :
    Host.reduceWindow (fun a b : EReal => a + b) ![N] ![1] ![Nm1] ![0] x init h hu (ValueIdx.ix1 j)
      = ∑ q ∈ Finset.range (j.val + 1), f q := by
  subst hN
  have hj := j.isLt
  unfold Host.reduceWindow
  dsimp only
  refine (List.foldl_ext _ (fun r (n : Fin (Routing.shape1 (Nm1 + 1)).numel) => r + if Nm1 ≤ j.val + n.val then f (j.val + n.val - Nm1) else 0)
    _ (fun r n _ => congrArg (r + ·) ?_)).trans ?_
  · have hw : ((Routing.shape1 (Nm1 + 1)).rowMajor.symm n 0).val = n.val := by rw [Routing.symm1]; rfl
    have hn : n.val < Nm1 + 1 := (n.cast (Routing.numel1 _)).isLt
    split
    · next hin =>
      have h0 := hin 0
      change Nm1 ≤ j.val * 1 + ((Routing.shape1 (Nm1 + 1)).rowMajor.symm n 0).val
        ∧ j.val * 1 + ((Routing.shape1 (Nm1 + 1)).rowMajor.symm n 0).val - Nm1 < Nm1 + 1 at h0
      rw [hw] at h0
      rw [if_pos (by omega)]
      refine (congrArg x (funext fun a => Fin.ext ?_)).trans (hx ⟨j.val + n.val - Nm1, by omega⟩)
      match a with
      | ⟨0, _⟩ =>
        show j.val * 1 + ((Routing.shape1 (Nm1 + 1)).rowMajor.symm n 0).val - Nm1 = j.val + n.val - Nm1
        rw [hw, Nat.mul_one]
    · next hin =>
      rw [if_neg fun hle => hin fun a => by
        match a with
        | ⟨0, _⟩ =>
          show Nm1 ≤ j.val * 1 + ((Routing.shape1 (Nm1 + 1)).rowMajor.symm n 0).val
            ∧ j.val * 1 + ((Routing.shape1 (Nm1 + 1)).rowMajor.symm n 0).val - Nm1 < Nm1 + 1
          rw [hw]
          omega]
      exact hinit _
  rw [foldl_add_eq, hinit, zero_add, ← Fin.sum_univ_def,
    Fin.sum_univ_eq_sum_range (fun k => if Nm1 ≤ j.val + k then f (j.val + k - Nm1) else 0), Routing.numel1]
  exact window_prefix f Nm1 j.val (by omega)

theorem hostPrefix_eq (y : S16384.Idx → EReal) (f : ℕ → EReal) (hf : ∀ p : Fin (2 ^ 14), y (entryAt p) = f p.val) (p : Fin (2 ^ 14)) :
    @Eq EReal (Host.reduceWindowAdd (F := Ideal) (φ := .f32) ![16384] ![1] ![16383] ![0] y
      (broadcastInDim S_ ![] bcast_S_S_ (constant S_ .f32 0x00000000#32)) reduceWindows_S16384_S16384_w16384s1p16383_0 h_S_ (entryAt p))
      (∑ q ∈ Finset.range (p.val + 1), f q) := by
  unfold Host.reduceWindowAdd
  rw [show broadcastInDim S_ ![] bcast_S_S_ (constant (F := Ideal) S_ .f32 0x00000000#32) (Shape.Idx.first h_S_) = Ideal.ofBits .f32 0x00000000#32 from rfl]
  show Ideal.hostReduceWindowAdd _ _ _ _ _ _ _ _ = _
  unfold Ideal.hostReduceWindowAdd
  change Host.reduceWindow (fun a b : EReal => a + b) ![16384] ![1] ![16383] ![0] y (fun _ => Ideal.ofBits .f32 0x00000000#32)
    reduceWindows_S16384_S16384_w16384s1p16383_0 h_S_ (entryAt p) = _
  have hw := window_apply (N := 16384) (Nm1 := 16383) (by norm_num) y f hf (fun _ => Ideal.ofBits .f32 0x00000000#32) (fun _ => ofBits_zero)
    reduceWindows_S16384_S16384_w16384s1p16383_0 h_S_ p
  exact hw

/-- The logarithm's argument: the prefix sums of the exponentials over the sorted risks. -/
def riskPrefix (x : Fin (2 ^ 14) → EReal) (σ : Fin (2 ^ 14) → Fin (2 ^ 14)) (p : Fin (2 ^ 14)) : EReal :=
  ∑ q ∈ Finset.range (p.val + 1), extended (fun q => Ideal.exp (x (σ q) - ⨆ i, x i)) q

/-- The reference's loss, for risks `x`, event values `e` and the order `σ`. -/
def refLoss (x e : Fin (2 ^ 14) → EReal) (σ : Fin (2 ^ 14) → Fin (2 ^ 14)) : EReal :=
  Ideal.div (-∑ p, (x (σ p) - (Ideal.log (riskPrefix x σ p) + ⨆ i, x i)) * e (σ p)) (∑ p, e (σ p))
    + Ideal.ofBits .f32 0x38D1B717#32 * Ideal.div (∑ i, max (x i) (-x i)) (Ideal.ofBits .f32 0x46800000#32)

/-- The event flags as numbers. -/
abbrev eventValue (ev : IVec S16384 32) (i : Fin (2 ^ 14)) : EReal := FloatOps.sitofp (F := Ideal) .f32 (ev (entryAt i))

/-- The reference's result in terms of its sorted vectors. -/
def refTerm (risk time : FVec Ideal S16384 .f32) (ev : IVec S16384 32) : FVec Ideal S_ .f32 :=
  let rs := sortedBy time risk
  let es := sortedBy time (sitofp (F := Ideal) .f32 ev)
  let mx := Host.reduce FloatOps.maximumf rs (constant S_ .f32 0xFF800000#32) reducesTo_S16384_S_d0 h_S_
  let cs := Host.reduceWindowAdd ![16384] ![1] ![16383] ![0] (Host.exp (subf rs (broadcastInDim S16384 ![] bcast_S_S16384 mx)))
    (broadcastInDim S_ ![] bcast_S_S_ (constant S_ .f32 0x00000000#32)) reduceWindows_S16384_S16384_w16384s1p16383_0 h_S_
  addf (Host.divf (Host.negf (Host.reduceAdd (mulf (subf rs (addf (Host.log cs) (broadcastInDim S16384 ![] bcast_S_S16384 mx))) es)
      (constant S_ .f32 0x00000000#32) reducesTo_S16384_S_d0 h_S_))
    (Host.reduceAdd es (constant S_ .f32 0x00000000#32) reducesTo_S16384_S_d0 h_S_))
    (mulf (constant S_ .f32 0x38D1B717#32) (Host.divf (Host.reduceAdd (Host.absf risk) (constant S_ .f32 0x00000000#32) reducesTo_S16384_S_d0 h_S_)
      (constant S_ .f32 0x46800000#32)))

theorem res_eq_refTerm (m : (ℓ : Loc nD τ sig) → Buf (Elt Ideal) ℓ) (c : Dev nD) :
    Value.res_main_v35 (F := Ideal) m c = refTerm (m ((c.tc : Thread nD τ).loc main_arg0)) (m ((c.tc : Thread nD τ).loc main_arg1))
      (m ((c.tc : Thread nD τ).loc main_arg2)) := by
  unfold Value.res_main_v35
  rfl

theorem refTerm_apply (risk time : FVec Ideal S16384 .f32) (ev : IVec S16384 32) :
    @Eq EReal (refTerm risk time ev ValueIdx.ix0)
      (refLoss (fun i => risk (entryAt i)) (eventValue ev) (refOrder fun i => time (entryAt i))) := by
  have hrs : ∀ p, sortedBy time risk (entryAt p) = risk (entryAt (refOrder (fun i => time (entryAt i)) p)) := sortedBy_apply time risk
  have hes : ∀ p, sortedBy time (sitofp (F := Ideal) .f32 ev) (entryAt p) = eventValue ev (refOrder (fun i => time (entryAt i)) p) :=
    sortedBy_apply time _
  unfold refTerm
  generalize sortedBy time risk = rs at hrs
  generalize sortedBy time (sitofp (F := Ideal) .f32 ev) = es at hes
  have hσ := refOrder_bijective fun i => (time (entryAt i) : EReal)
  generalize refOrder (fun i => (time (entryAt i) : EReal)) = σ at hrs hes hσ
  have hmx : ∀ j, @Eq EReal (Host.reduce (α := Ideal .f32) FloatOps.maximumf rs (constant (F := Ideal) S_ .f32 0xFF800000#32) reducesTo_S16384_S_d0 h_S_ j)
      (⨆ i, (risk (entryAt i) : EReal)) := fun j => by
    refine (hostMax_eq rs j).trans ?_
    refine (iSup_congr fun i => hrs i).trans ?_
    exact hσ.surjective.iSup_comp (g := fun i => (risk (entryAt i) : EReal))
  generalize Host.reduce (α := Ideal .f32) FloatOps.maximumf rs (constant (F := Ideal) S_ .f32 0xFF800000#32) reducesTo_S16384_S_d0 h_S_ = mx at hmx
  have hex : ∀ p : Fin (2 ^ 14), @Eq EReal (Host.exp (subf rs (broadcastInDim S16384 ![] bcast_S_S16384 mx)) (entryAt p))
      (extended (fun q => Ideal.exp ((risk (entryAt (σ q)) : EReal) - ⨆ i, (risk (entryAt i) : EReal))) p.val) := fun p => by
    rw [extended_val]
    show Ideal.exp ((rs (entryAt p) : EReal) - mx _) = _
    rw [hrs, hmx]
  have hcs : ∀ p : Fin (2 ^ 14), @Eq EReal (Host.reduceWindowAdd (F := Ideal) ![16384] ![1] ![16383] ![0]
      (Host.exp (subf rs (broadcastInDim S16384 ![] bcast_S_S16384 mx)))
      (broadcastInDim S_ ![] bcast_S_S_ (constant S_ .f32 0x00000000#32)) reduceWindows_S16384_S16384_w16384s1p16383_0 h_S_ (entryAt p))
      (riskPrefix (fun i => risk (entryAt i)) σ p) := fun p => by
    have hw := hostPrefix_eq (Host.exp (subf rs (broadcastInDim S16384 ![] bcast_S_S16384 mx))) _ hex p
    exact hw
  dsimp only
  generalize Host.reduceWindowAdd (F := Ideal) ![16384] ![1] ![16383] ![0]
      (Host.exp (subf rs (broadcastInDim S16384 ![] bcast_S_S16384 mx)))
      (broadcastInDim S_ ![] bcast_S_S_ (constant S_ .f32 0x00000000#32)) reduceWindows_S16384_S16384_w16384s1p16383_0 h_S_ = cs at hcs
  have hnum := hostSum_eq (mulf (F := Ideal) (φ := .f32) (subf rs (addf (Host.log cs) (broadcastInDim S16384 ![] bcast_S_S16384 mx))) es)
  have hden := hostSum_eq es
  have habs := hostSum_eq (Host.absf (F := Ideal) (φ := .f32) risk)
  generalize Host.reduceAdd (mulf (F := Ideal) (φ := .f32) (subf rs (addf (Host.log cs) (broadcastInDim S16384 ![] bcast_S_S16384 mx))) es)
    (constant S_ .f32 0x00000000#32) reducesTo_S16384_S_d0 h_S_ = num at hnum ⊢
  generalize Host.reduceAdd es (constant S_ .f32 0x00000000#32) reducesTo_S16384_S_d0 h_S_ = den at hden ⊢
  generalize Host.reduceAdd (Host.absf (F := Ideal) (φ := .f32) risk) (constant S_ .f32 0x00000000#32) reducesTo_S16384_S_d0 h_S_ = sabs at habs ⊢
  unfold refLoss
  refine congrArg₂ (· + ·) (congrArg₂ Ideal.div (congrArg (fun y : EReal => -y) (hnum.trans ?_)) (hden.trans ?_))
    (congrArg (_ * ·) (congrArg (Ideal.div · _) (habs.trans ?_)))
  · refine Finset.sum_congr rfl fun p _ => ?_
    show ((rs (entryAt p) : EReal) - (Ideal.log (cs (entryAt p)) + mx _)) * es (entryAt p) = _
    rw [hrs, hes, hmx, hcs]
  · exact Finset.sum_congr rfl fun p _ => hes p
  · rfl

end Cert.Cox

end
-- ==== Proof.KernelLoss.lean ====
/- The kernel's result, as sums over the sorted sources. -/
module

public import proofs.«01_k».proof.Proof.RefValue

@[expose] public section

noncomputable section

namespace Cert.Cox

open Idealize.ShloMosaic Idealize.ShloMosaic.SortNet
open Cert.KernelIdeal Cert.KernelIdeal.Gen
open scoped BigOperators

/-- The kernel's loss, for risks `x`, event values `e` and the order `σ`. -/
def kernelLoss (x e : Fin (2 ^ 14) → EReal) (σ : Fin (2 ^ 14) → Fin (2 ^ 14)) : EReal :=
  Ideal.div (0 - ((∑ i, e i * x i) - (∑ p, e (σ p) * Ideal.log (riskPrefix x σ p)) - (⨆ i, x i) * ∑ i, e i)) (∑ i, e i)
    + Ideal.div (Ideal.ofBits .f32 0x38D1B717#32 * ∑ i, max (x i) (-x i)) (Ideal.ofBits .f32 0x46800000#32)

/-- The sum over the events of the logarithms of the prefix sums. -/
theorem termSum_eq {t x : Fin (2 ^ 14) → EReal} {w : Fin (2 ^ 14) → BitVec 32} (hw : Flags w) {s : Tiles Ideal}
    {σ : Fin (2 ^ 14) → Fin (2 ^ 14)} (h : HoldsSources t (packed w) x s σ) (m : EReal) (hm : m = ⨆ i, x i) :
    @Eq EReal (termSum (F := Ideal) m s)
      (∑ p, (FloatOps.sitofp (F := Ideal) .f32 (w (σ p)) : Ideal .f32) * Ideal.log (riskPrefix x σ p)) := by
  have hexp : ∀ c r, expTile (F := Ideal) m s (cell r c) = extended (fun q => Ideal.exp (x (σ q) - ⨆ i, x i)) (place c r).val := by
    intro c r
    rw [extended_val, ← hm]
    show Ideal.exp ((s.risk (cell r c) : EReal) - m) = _
    rw [(h c r).2.2]
  unfold termSum
  refine tileSum_places _ _ fun c r => ?_
  show (FloatOps.sitofp (F := Ideal) .f32 (IntOp.andi (s.key (cell r c)) 1#32) : EReal) * Ideal.log (prefixTile (F := Ideal) (expTile m s) (cell r c)) = _
  rw [(h c r).2.1, packed_flag hw, prefixTile_cell _ _ hexp]
  rfl

/-- The kernel's result. -/
theorem lossVal_apply (risk time : FVec Ideal S16384 .f32) (ev : IVec S16384 32) (hw : Flags fun i => ev (entryAt i)) :
    @Eq EReal (lossVal (F := Ideal) risk time ev)
      (kernelLoss (fun i => risk (entryAt i)) (eventValue ev) (refOrder fun i => time (entryAt i))) := by
  obtain ⟨σ, hσ, hbij, hmono⟩ := sorted_sources (packed_ordered hw) transposed_bijective (start_sources time risk ev)
  have hτ : σ = refOrder fun i => time (entryAt i) := order_unique hbij (refOrder_bijective _) hmono (refOrder_strictMono _)
  rw [hτ] at hσ
  have hmax := tileMax_flat (tiled risk) (fun i => risk (entryAt i)) fun r c => tiled_cell risk r c
  have hterm := termSum_eq hw hσ (tileMax (F := Ideal) (tiled risk)) hmax
  have hev := tileSum_flat (sitofp (F := Ideal) .f32 (tiled ev)) (eventValue ev) fun r c =>
    congrArg (FloatOps.sitofp (F := Ideal) .f32) (tiled_cell ev r c)
  have hevr := tileSum_flat (mulf (F := Ideal) (sitofp (F := Ideal) .f32 (tiled ev)) (tiled risk)) (fun i => eventValue ev i * risk (entryAt i)) fun r c =>
    congrArg₂ (fun a b : EReal => a * b) (congrArg (FloatOps.sitofp (F := Ideal) .f32) (tiled_cell ev r c)) (tiled_cell risk r c)
  have habs := tileSum_flat (absf (F := Ideal) (φ := .f32) (tiled risk)) (fun i => max (risk (entryAt i) : EReal) (-risk (entryAt i))) fun r c =>
    congrArg (fun a : EReal => max a (-a)) (tiled_cell risk r c)
  unfold lossVal lossTile
  generalize tileMax (F := Ideal) (tiled risk) = m at hmax hterm ⊢
  generalize termSum (F := Ideal) m (sortPhases 14 (startTiles (tiled time) (tiled ev) (tiled risk))) = v at hterm ⊢
  generalize tileSum (F := Ideal) (sitofp (F := Ideal) .f32 (tiled ev)) = n at hev ⊢
  generalize tileSum (F := Ideal) (mulf (F := Ideal) (sitofp (F := Ideal) .f32 (tiled ev)) (tiled risk)) = q at hevr ⊢
  generalize tileSum (F := Ideal) (absf (F := Ideal) (φ := .f32) (tiled risk)) = a at habs ⊢
  have hl : @Eq EReal (lossOf (F := Ideal) m q n a v)
      (Ideal.div (Ideal.ofBits .f32 0x00000000#32 - ((q : EReal) - v - (m : EReal) * n)) n
        + Ideal.div (Ideal.ofBits .f32 0x38D1B717#32 * (a : EReal)) (Ideal.ofBits .f32 0x46800000#32)) := rfl
  rw [hl, ofBits_zero, hmax, hterm, hev, hevr, habs]
  rfl

end Cert.Cox

end
-- ==== Proof.LossEq.lean ====
/- For risks below plus infinity and event flags the kernel's loss is the reference's: the sums are rearranged and split. -/
module

public import proofs.«01_k».proof.Proof.KernelLoss

@[expose] public section

noncomputable section

namespace Cert.Cox

open Idealize.ShloMosaic
open scoped BigOperators

/-- A sum of reals is real. -/
theorem sum_coe {ι : Type} (s : Finset ι) (f : ι → ℝ) : ∑ i ∈ s, (f i : EReal) = ((∑ i ∈ s, f i : ℝ) : EReal) :=
  (map_sum (⟨⟨(fun r : ℝ => (r : EReal)), EReal.coe_zero⟩, EReal.coe_add⟩ : ℝ →+ EReal) f s).symm

/-- The greatest of values below plus infinity is real, if one of them is. -/
theorem iSup_real {x : Fin (2 ^ 14) → EReal} (htop : ∀ i, x i < ⊤) {i : Fin (2 ^ 14)} (hi : x i ≠ ⊥) :
    ∃ M : ℝ, ⨆ i, x i = (M : EReal) := by
  haveI : Nonempty (Fin (2 ^ 14)) := ⟨i⟩
  obtain ⟨k, hk⟩ := Finite.exists_max x
  have hs : ⨆ i, x i = x k := le_antisymm (iSup_le hk) (le_iSup x k)
  have hbot : x k ≠ ⊥ := fun h => hi (le_bot_iff.mp (h ▸ hk i))
  exact ⟨(x k).toReal, hs.trans (EReal.coe_toReal (htop k).ne hbot).symm⟩

/-- The exponential of a difference from a real is a real that isn't negative, positive unless the value is minus infinity. -/
theorem exp_sub_real {y : EReal} (hy : y < ⊤) (M : ℝ) : ∃ w : ℝ, Ideal.exp (y - M) = (w : EReal) ∧ 0 ≤ w ∧ (y ≠ ⊥ → 0 < w) := by
  induction y using EReal.rec with
  | bot => exact ⟨0, by rw [EReal.bot_sub]; rfl, le_rfl, fun h => absurd rfl h⟩
  | coe r => exact ⟨Real.exp (r - M), by rw [← EReal.coe_sub]; rfl, (Real.exp_pos _).le, fun _ => Real.exp_pos _⟩
  | top => exact absurd hy (lt_irrefl _)

/-- The prefix sum at an entry of real risk is a positive real, so its logarithm is real. -/
theorem log_riskPrefix {x : Fin (2 ^ 14) → EReal} (htop : ∀ i, x i < ⊤) (σ : Fin (2 ^ 14) → Fin (2 ^ 14)) {p : Fin (2 ^ 14)}
    (hp : x (σ p) ≠ ⊥) : ∃ l : ℝ, Ideal.log (riskPrefix x σ p) = (l : EReal) := by
  obtain ⟨M, hM⟩ := iSup_real htop hp
  choose W hW hnonneg hpos using fun q => exp_sub_real (htop (σ q)) M
  have hterm : ∀ q : ℕ, extended (fun q => Ideal.exp (x (σ q) - ⨆ i, x i)) q = ((if h : q < 2 ^ 14 then W ⟨q, h⟩ else 0 : ℝ) : EReal) := by
    intro q
    unfold extended
    by_cases h : q < 2 ^ 14
    · rw [dif_pos h, dif_pos h]
      show Ideal.exp (x (σ ⟨q, h⟩) - ⨆ i, x i) = _
      rw [hM, hW]
    · rw [dif_neg h, dif_neg h, EReal.coe_zero]
  have hs : riskPrefix x σ p = ((∑ q ∈ Finset.range (p.val + 1), if h : q < 2 ^ 14 then W ⟨q, h⟩ else 0 : ℝ) : EReal) := by
    unfold riskPrefix
    rw [← sum_coe]
    exact Finset.sum_congr rfl fun q _ => hterm q
  have hsum : 0 < ∑ q ∈ Finset.range (p.val + 1), if h : q < 2 ^ 14 then W ⟨q, h⟩ else 0 := by
    refine Finset.sum_pos' (fun q _ => ?_) ⟨p.val, Finset.mem_range.mpr (Nat.lt_succ_self _), ?_⟩
    · by_cases h : q < 2 ^ 14
      · rw [dif_pos h]
        exact hnonneg _
      · rw [dif_neg h]
    · rw [dif_pos p.isLt]
      exact hpos p hp
  rw [hs]
  exact ⟨_, if_neg (not_le.mpr hsum)⟩

/-- A sum with a term of minus infinity is minus infinity. -/
theorem sum_bot {f : Fin (2 ^ 14) → EReal} {i : Fin (2 ^ 14)} (h : f i = ⊥) : ∑ i, f i = ⊥ := by
  rw [← Finset.add_sum_erase Finset.univ f (Finset.mem_univ i), h, EReal.bot_add]

/-- The pattern of 16384 is not zero. -/
theorem ofBits_count_ne_zero : Ideal.ofBits .f32 0x46800000#32 ≠ 0 := by
  have h : Ideal.ofBits .f32 0x46800000#32 = ((16384 : ℝ) : EReal) := by
    simp [Ideal.ofBits, Ideal.ieee, -EReal.coe_mul]
    norm_num
  rw [h]
  exact fun h => by norm_num at h

/-- Scaling before the division by the count or after it. -/
theorem scale_div (a b : EReal) :
    Ideal.div (a * b) (Ideal.ofBits .f32 0x46800000#32) = a * Ideal.div b (Ideal.ofBits .f32 0x46800000#32) := by
  unfold Ideal.div
  rw [if_neg ofBits_count_ne_zero, if_neg ofBits_count_ne_zero, mul_assoc]

/-- The split of the partial log-likelihood, over the reals. -/
theorem split_sum (X E L : Fin (2 ^ 14) → ℝ) (M : ℝ) {σ : Fin (2 ^ 14) → Fin (2 ^ 14)} (hσ : Function.Bijective σ) :
    ∑ p, (X (σ p) - (L p + M)) * E (σ p) = (∑ i, E i * X i) - (∑ p, E (σ p) * L p) - M * ∑ i, E i := by
  rw [← hσ.sum_comp fun i => E i * X i, ← hσ.sum_comp E, Finset.mul_sum, ← Finset.sum_sub_distrib, ← Finset.sum_sub_distrib]
  exact Finset.sum_congr rfl fun p _ => by ring

/-- The numerators agree: an event of risk minus infinity makes both infinite, no event makes both zero, and else every
    term with an event is real. -/
theorem numerators_agree (x : Fin (2 ^ 14) → EReal) (E : Fin (2 ^ 14) → ℝ) (htop : ∀ i, x i < ⊤) (hE : ∀ i, E i = 0 ∨ E i = 1)
    {σ : Fin (2 ^ 14) → Fin (2 ^ 14)} (hσ : Function.Bijective σ) :
    0 - ((∑ i, (E i : EReal) * x i) - (∑ p, (E (σ p) : EReal) * Ideal.log (riskPrefix x σ p)) - (⨆ i, x i) * ∑ i, (E i : EReal))
      = -∑ p, (x (σ p) - (Ideal.log (riskPrefix x σ p) + ⨆ i, x i)) * (E (σ p) : EReal) := by
  suffices h : (∑ i, (E i : EReal) * x i) - (∑ p, (E (σ p) : EReal) * Ideal.log (riskPrefix x σ p)) - (⨆ i, x i) * ∑ i, (E i : EReal)
      = ∑ p, (x (σ p) - (Ideal.log (riskPrefix x σ p) + ⨆ i, x i)) * (E (σ p) : EReal) by rw [h, zero_sub]
  by_cases hbot : ∃ i, E i = 1 ∧ x i = ⊥
  · obtain ⟨i, h1, hb⟩ := hbot
    obtain ⟨p, rfl⟩ := hσ.2 i
    have hl : ∑ i, (E i : EReal) * x i = ⊥ := sum_bot (i := σ p) (by rw [h1, hb, EReal.coe_one, one_mul])
    have hr : ∑ p, (x (σ p) - (Ideal.log (riskPrefix x σ p) + ⨆ i, x i)) * (E (σ p) : EReal) = ⊥ :=
      sum_bot (i := p) (by rw [h1, hb, EReal.bot_sub, EReal.coe_one, mul_one])
    rw [hl, hr, EReal.bot_sub, EReal.bot_sub]
  · have hreal : ∀ i, E i = 1 → x i ≠ ⊥ := fun i h1 hb => hbot ⟨i, h1, hb⟩
    by_cases hev : ∃ i, E i = 1
    · obtain ⟨i, h1⟩ := hev
      obtain ⟨M, hM⟩ := iSup_real htop (hreal i h1)
      have hX : ∀ i, (E i : EReal) * x i = (E i : EReal) * ((x i).toReal : EReal) := by
        intro i
        rcases hE i with h | h
        · rw [h, EReal.coe_zero, zero_mul, zero_mul]
        · rw [EReal.coe_toReal (htop i).ne (hreal i h)]
      have hL : ∀ p, (E (σ p) : EReal) * Ideal.log (riskPrefix x σ p) = (E (σ p) : EReal) * ((Ideal.log (riskPrefix x σ p)).toReal : EReal) := by
        intro p
        rcases hE (σ p) with h | h
        · rw [h, EReal.coe_zero, zero_mul, zero_mul]
        · obtain ⟨l, hl⟩ := log_riskPrefix htop σ (hreal (σ p) h)
          rw [hl, EReal.toReal_coe]
      have hT : ∀ p, (x (σ p) - (Ideal.log (riskPrefix x σ p) + (M : EReal))) * (E (σ p) : EReal)
          = (((x (σ p)).toReal : EReal) - (((Ideal.log (riskPrefix x σ p)).toReal : EReal) + (M : EReal))) * (E (σ p) : EReal) := by
        intro p
        rcases hE (σ p) with h | h
        · rw [h, EReal.coe_zero, mul_zero, mul_zero]
        · obtain ⟨l, hl⟩ := log_riskPrefix htop σ (hreal (σ p) h)
          rw [hl, EReal.toReal_coe, EReal.coe_toReal (htop _).ne (hreal _ h)]
      rw [hM, Finset.sum_congr rfl fun i _ => hX i, Finset.sum_congr rfl fun p _ => hL p, Finset.sum_congr rfl fun p _ => hT p]
      simp only [← EReal.coe_mul, ← EReal.coe_add, ← EReal.coe_sub, sum_coe]
      rw [split_sum (fun i => (x i).toReal) E (fun p => (Ideal.log (riskPrefix x σ p)).toReal) M hσ]
    · have h0 : ∀ i, (E i : EReal) = 0 := fun i => by
        rw [(hE i).resolve_right fun h => hev ⟨i, h⟩, EReal.coe_zero]
      simp only [h0, zero_mul, mul_zero, Finset.sum_const_zero, sub_zero]

/-- The two losses agree where no risk is plus infinity and the event values are zero or one. -/
theorem kernelLoss_eq_refLoss (x : Fin (2 ^ 14) → EReal) (E : Fin (2 ^ 14) → ℝ) (htop : ∀ i, x i < ⊤) (hE : ∀ i, E i = 0 ∨ E i = 1)
    {σ : Fin (2 ^ 14) → Fin (2 ^ 14)} (hσ : Function.Bijective σ) :
    kernelLoss x (fun i => (E i : EReal)) σ = refLoss x (fun i => (E i : EReal)) σ := by
  have hd : ∑ p, (E (σ p) : EReal) = ∑ i, (E i : EReal) := hσ.sum_comp fun i => (E i : EReal)
  unfold kernelLoss refLoss
  rw [scale_div, hd, numerators_agree x E htop hE hσ]

end Cert.Cox

end
-- ==== Proof.Pre.lean ====
/- What the stated precondition says: the risks are below plus infinity and the event flags are zero or one. -/
module

public import proofs.«01_k».proof.Pre_risks_below_infinity_and_event_flags
public import proofs.«01_k».proof.Proof.TileSums

@[expose] public section

noncomputable section

namespace Cert.Cox

open Idealize.ShloMosaic
open Cert.KernelIdeal

/-- The side condition the precondition states. -/
theorem preFacts : Cert.Pre_risks_below_infinity_and_event_flags.Facts := ⟨by decide⟩

theorem andi_one {a b : BitVec 1} (h : IntOp.andi a b = 1#1) : a = 1#1 ∧ b = 1#1 := by
  revert a b; decide

theorem ofBool_one {b : Bool} (h : BitVec.ofBool b = 1#1) : b = true := by
  cases b
  · exact absurd h (by decide)
  · rfl

/-- A flag's number is zero or one. -/
theorem flag_value {w : BitVec 32} (h : w = 0#32 ∨ w = 1#32) : (w.toInt : ℝ) = 0 ∨ (w.toInt : ℝ) = 1 := by
  have e0 : (0#32).toInt = 0 := by decide
  have e1 : (1#32).toInt = 1 := by decide
  rcases h with h | h
  · exact Or.inl (by rw [h, e0, Int.cast_zero])
  · exact Or.inr (by rw [h, e1, Int.cast_one])

/-- A word between zero and one is zero or one. -/
theorem flag_of_range {w : BitVec 32} (h0 : (0#32).sle w = true) (h1 : w.sle 1#32 = true) : w = 0#32 ∨ w = 1#32 := by
  rw [BitVec.sle_iff_toInt_le] at h0 h1
  have e0 : (0#32).toInt = 0 := by decide
  have e1 : (1#32).toInt = 1 := by decide
  rw [e0] at h0
  rw [e1] at h1
  rcases (show w.toInt = 0 ∨ w.toInt = 1 by omega) with h | h
  · exact Or.inl (BitVec.eq_of_toInt_eq (h.trans e0.symm))
  · exact Or.inr (BitVec.eq_of_toInt_eq (h.trans e1.symm))

theorem pre_reads [Cert.Pre_risks_below_infinity_and_event_flags.Facts] (risk time : FVec Ideal S16384 .f32) (ev : IVec S16384 32)
    (h : Cert.Pre_risks_below_infinity_and_event_flags.fn (F := Ideal) risk time ev = fun _ => 1#1) :
    (∀ i, (risk (entryAt i) : EReal) < ⊤) ∧ Flags fun i => ev (entryAt i) := by
  have hi : ∀ i, IntOp.andi (IntOp.andi (BitVec.ofBool (decide ((risk (entryAt i) : EReal) < Ideal.ofBits .f32 0x7F800000#32)))
      (BitVec.ofBool ((0#32).sle (ev (entryAt i))))) (BitVec.ofBool ((ev (entryAt i)).sle 1#32)) = 1#1 := fun i => congrFun h (entryAt i)
  refine ⟨fun i => ?_, fun i => ?_⟩
  · have hf := of_decide_eq_true (ofBool_one (andi_one (andi_one (hi i)).1).1)
    rw [ofBits_inf] at hf
    exact hf
  · exact flag_of_range (ofBool_one (andi_one (andi_one (hi i)).1).2) (ofBool_one (andi_one (hi i)).2)

end Cert.Cox

end
-- ==== Proof.lean ====
/- The certificate: the frames, and the kernel's loss against the reference's on risks below plus infinity and event flags. The parts are in the
   modules of proof/Proof/: the kernel's run and its value as a pure term (Model, Run, KernelValue), its bitonic sort as an arrangement
   of the sources (Places, SortSteps), its sums (TileSums, PrefixSums), the reference's order and value (RefOrder, RefValue), and the
   two losses compared (KernelLoss, LossEq) under what the precondition says (Pre). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LossEq
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem Cert.Cox

/-- Under the precondition the kernel's loss is the reference's result. -/
theorem lossVal_eq_refTerm [Cert.Pre_risks_below_infinity_and_event_flags.Facts] (risk time : FVec Ideal Cert.KernelIdeal.S16384 .f32)
    (ev : IVec Cert.KernelIdeal.S16384 32)
    (h : Cert.Pre_risks_below_infinity_and_event_flags.fn (F := Ideal) risk time ev = fun _ => 1#1) :
    refTerm risk time ev = fun _ => lossVal (F := Ideal) risk time ev := by
  obtain ⟨htop, hflags⟩ := pre_reads risk time ev h
  have hk := lossVal_apply risk time ev hflags
  have hr := refTerm_apply risk time ev
  have he := kernelLoss_eq_refLoss (fun i => (risk (entryAt i) : EReal)) (fun i => ((ev (entryAt i)).toInt : ℝ)) htop
    (fun i => flag_value (hflags i)) (refOrder_bijective fun i => time (entryAt i))
  funext j
  rw [scalar_subsingleton j ValueIdx.ix0]
  exact hr.trans (he.symm.trans hk.symm)

/-- The reference runs, leaves its arguments and has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Both run, and the results agree. -/
theorem losses_agree [Cert.Pre_risks_below_infinity_and_event_flags.Facts] :
    Cert.algebraic_KernelIdeal_ReferenceIdeal_pre_risks_below_infinity_and_event_flags (hKernelIdeal := Cert.KernelIdeal.Gen.facts)
      (hReferenceIdeal := Cert.ReferenceIdeal.Gen.facts) := by
  intro m g m' g' hpre hargs
  refine ⟨fun c => fun _ => lossVal (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), kernel_run (F := Ideal) m g, ?_⟩
  refine (θ_run Cert.ReferenceIdeal.defs _ _).mono (fun r h c => ⟨(h c).1.trans ?_, (h c).2⟩)
    (Cert.ReferenceIdeal.Value.run (F := Ideal) m' g')
  rw [res_eq_refTerm, (hargs c).1, (hargs c).2.1, (hargs c).2.2]
  exact lossVal_eq_refTerm _ _ _ (hpre c)

theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    @losses_agree preFacts⟩

end Cert.Proof

end
